-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S120 : Shape := ⟨1, ![120]⟩
abbrev S5120 : Shape := ⟨1, ![5120]⟩
abbrev S1x5120 : Shape := ⟨2, ![1, 5120]⟩
abbrev S4x5120 : Shape := ⟨2, ![4, 5120]⟩
abbrev S5120x4 : Shape := ⟨2, ![5120, 4]⟩
abbrev S5120x8 : Shape := ⟨2, ![5120, 8]⟩
abbrev S100x8 : Shape := ⟨2, ![100, 8]⟩
abbrev S1024x4 : Shape := ⟨2, ![1024, 4]⟩
abbrev S4x1024 : Shape := ⟨2, ![4, 1024]⟩
abbrev S1 : Shape := ⟨1, ![1]⟩
abbrev S1024x1 : Shape := ⟨2, ![1024, 1]⟩
abbrev S1x1024 : Shape := ⟨2, ![1, 1024]⟩
abbrev S1024x1024 : Shape := ⟨2, ![1024, 1024]⟩
abbrev S1x1x1024 : Shape := ⟨3, ![1, 1, 1024]⟩
abbrev S1x1x1 : Shape := ⟨3, ![1, 1, 1]⟩
abbrev S40x128 : Shape := ⟨2, ![40, 128]⟩
abbrev S128x128 : Shape := ⟨2, ![128, 128]⟩
abbrev S40x1 : Shape := ⟨2, ![40, 1]⟩
abbrev S40x40 : Shape := ⟨2, ![40, 40]⟩
abbrev S1x1 : Shape := ⟨2, ![1, 1]⟩
abbrev S100x5120 : Shape := ⟨2, ![100, 5120]⟩
abbrev S100x1 : Shape := ⟨2, ![100, 1]⟩
abbrev S1x8 : Shape := ⟨2, ![1, 8]⟩
abbrev S100x5 : Shape := ⟨2, ![100, 5]⟩

abbrev nBuf : Space → Nat
  | .hbm => 46
  | .vmem => 9
  | .smem => 1
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S_, .f32⟩
  | .hbm, ⟨3, _⟩ => ⟨S5000, .f32⟩
  | .hbm, ⟨4, _⟩ => ⟨S5000, .i1⟩
  | .hbm, ⟨5, _⟩ => ⟨S_, .f32⟩
  | .hbm, ⟨6, _⟩ => ⟨S_, .f32⟩
  | .hbm, ⟨7, _⟩ => ⟨S5000, .f32⟩
  | .hbm, ⟨8, _⟩ => ⟨S5000, .f32⟩
  | .hbm, ⟨9, _⟩ => ⟨S5000, .f32⟩
  | .hbm, ⟨10, _⟩ => ⟨S5000x1, .f32⟩
  | .hbm, ⟨11, _⟩ => ⟨S5000, .f32⟩
  | .hbm, ⟨12, _⟩ => ⟨S5000x1, .f32⟩
  | .hbm, ⟨13, _⟩ => ⟨S5000, .f32⟩
  | .hbm, ⟨14, _⟩ => ⟨S5000x1, .f32⟩
  | .hbm, ⟨15, _⟩ => ⟨S5000, .f32⟩
  | .hbm, ⟨16, _⟩ => ⟨S5000x1, .f32⟩
  | .hbm, ⟨17, _⟩ => ⟨S5000, .f32⟩
  | .hbm, ⟨18, _⟩ => ⟨S5000, .f32⟩
  | .hbm, ⟨19, _⟩ => ⟨S5000, .f32⟩
  | .hbm, ⟨20, _⟩ => ⟨S5000, .f32⟩
  | .hbm, ⟨21, _⟩ => ⟨S5000, .f32⟩
  | .hbm, ⟨22, _⟩ => ⟨S5000, .f32⟩
  | .hbm, ⟨23, _⟩ => ⟨S5000, .f32⟩
  | .hbm, ⟨24, _⟩ => ⟨S_, .f32⟩
  | .hbm, ⟨25, _⟩ => ⟨S120, .f32⟩
  | .hbm, ⟨26, _⟩ => ⟨S5120, .f32⟩
  | .hbm, ⟨27, _⟩ => ⟨S5120, .f32⟩
  | .hbm, ⟨28, _⟩ => ⟨S5120, .f32⟩
  | .hbm, ⟨29, _⟩ => ⟨S5120, .f32⟩
  | .hbm, ⟨30, _⟩ => ⟨S_, .f32⟩
  | .hbm, ⟨31, _⟩ => ⟨S120, .f32⟩
  | .hbm, ⟨32, _⟩ => ⟨S5120, .f32⟩
  | .hbm, ⟨33, _⟩ => ⟨S1x5120, .f32⟩
  | .hbm, ⟨34, _⟩ => ⟨S1x5120, .f32⟩
  | .hbm, ⟨35, _⟩ => ⟨S1x5120, .f32⟩
  | .hbm, ⟨36, _⟩ => ⟨S1x5120, .f32⟩
  | .hbm, ⟨37, _⟩ => ⟨S4x5120, .f32⟩
  | .hbm, ⟨38, _⟩ => ⟨S5120x4, .f32⟩
  | .hbm, ⟨39, _⟩ => ⟨S_, .f32⟩
  | .hbm, ⟨40, _⟩ => ⟨S5120x4, .f32⟩
  | .hbm, ⟨41, _⟩ => ⟨S5120x8, .f32⟩
  | .hbm, ⟨42, _⟩ => ⟨S1x5120, .f32⟩
  | .hbm, ⟨43, _⟩ => ⟨S100x8, .f32⟩
  | .hbm, ⟨44, _⟩ => ⟨S1x5120, .f32⟩
  | .hbm, ⟨45, _⟩ => ⟨S100x5, .f32⟩
  | .local _ .vmem, ⟨0, _⟩ => ⟨S1024x4, .f32⟩
  | .local _ .vmem, ⟨1, _⟩ => ⟨S1024x4, .f32⟩
  | .local _ .vmem, ⟨2, _⟩ => ⟨S4x5120, .f32⟩
  | .local _ .vmem, ⟨3, _⟩ => ⟨S4x1024, .f32⟩
  | .local _ .vmem, ⟨4, _⟩ => ⟨S4x1024, .f32⟩
  | .local _ .vmem, ⟨5, _⟩ => ⟨S1x5120, .f32⟩
  | .local _ .vmem, ⟨6, _⟩ => ⟨S5120x8, .f32⟩
  | .local _ .vmem, ⟨7, _⟩ => ⟨S100x8, .f32⟩
  | .local _ .vmem, ⟨8, _⟩ => ⟨S1x5120, .f32⟩
  | .local _ .smem, ⟨0, _⟩ => ⟨S1, .f32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v12_4 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![5], ![false]⟩

def k0_off1 (i : grid0.Coords) : Fin 2 → Nat :=
  let c0_9 : Index := 0#32
  let arg0 : BitVec 32 := BitVec.ofNat 32 (i 0).val
  let c1024_i32 : BitVec 32 := 1024#32
  let v58 : BitVec 32 := Scalar.muli arg0 c1024_i32
  let v59 : Index := Scalar.indexCast v58
  ![0, v59.toNat]
def k0_off2 (i : grid0.Coords) : Fin 2 → Nat :=
  let c0_14 : Index := 0#32
  let arg0 : BitVec 32 := BitVec.ofNat 32 (i 0).val
  let c1024_i32_13 : BitVec 32 := 1024#32
  let v68 : BitVec 32 := Scalar.muli arg0 c1024_i32_13
  let v69 : Index := Scalar.indexCast v68
  ![0, v69.toNat]
@[reducible] def k0_t1_loop (i : grid0.Coords) : Scf.Loop 32 :=
  let arg0 : BitVec 32 := BitVec.ofNat 32 (i 0).val
  let c1_i32 : BitVec 32 := 1#32
  let v83 : BitVec 32 := Scalar.addi arg0 c1_i32
  let c5_i32 : BitVec 32 := 5#32
  let v84 : BitVec 32 := Scalar.subi c5_i32 v83
  let c1_i32_22 : BitVec 32 := 1#32
  let v86 : BitVec 32 := Scalar.divsi v84 c1_i32_22
  let v87 : BitVec 32 := Scalar.muli v86 c1_i32_22
  let v88 : BitVec 32 := Scalar.addi v83 v87
  let c1_i32_23 : BitVec 32 := 1#32
  ⟨v83, v88, c1_i32_23⟩
def k0_off3 (i : grid0.Coords) (k0_t1 : Fin (k0_t1_loop i).trips) : Fin 2 → Nat :=
  let c0_26 : Index := 0#32
  let arg0 : BitVec 32 := BitVec.ofNat 32 (i 0).val
  let c1_i32 : BitVec 32 := 1#32
  let v83 : BitVec 32 := Scalar.addi arg0 c1_i32
  let c1_i32_23 : BitVec 32 := 1#32
  let arg9 : BitVec 32 := Scf.iv v83 c1_i32_23 k0_t1
  let c1024_i32_25 : BitVec 32 := 1024#32
  let v89 : BitVec 32 := Scalar.muli arg9 c1024_i32_25
  let v90 : Index := Scalar.indexCast v89
  ![0, v90.toNat]
def k0_off4 (i : grid0.Coords) (k0_t1 : Fin (k0_t1_loop i).trips) : Fin 2 → Nat :=
  let c0_33 : Index := 0#32
  let arg0 : BitVec 32 := BitVec.ofNat 32 (i 0).val
  let c1_i32 : BitVec 32 := 1#32
  let v83 : BitVec 32 := Scalar.addi arg0 c1_i32
  let c1_i32_23 : BitVec 32 := 1#32
  let arg9 : BitVec 32 := Scf.iv v83 c1_i32_23 k0_t1
  let c1024_i32_32 : BitVec 32 := 1024#32
  let v132 : BitVec 32 := Scalar.muli arg9 c1024_i32_32
  let v133 : Index := Scalar.indexCast v132
  ![0, v133.toNat]
@[reducible] def k0_t2_loop (i : grid0.Coords) : Scf.Loop 32 :=
  let arg0 : BitVec 32 := BitVec.ofNat 32 (i 0).val
  let c1_i32 : BitVec 32 := 1#32
  let v83 : BitVec 32 := Scalar.addi arg0 c1_i32
  let c5_i32 : BitVec 32 := 5#32
  let v84 : BitVec 32 := Scalar.subi c5_i32 v83
  let c1_i32_22 : BitVec 32 := 1#32
  let v86 : BitVec 32 := Scalar.divsi v84 c1_i32_22
  let v87 : BitVec 32 := Scalar.muli v86 c1_i32_22
  let v88 : BitVec 32 := Scalar.addi v83 v87
  let v85 : BitVec 32 := Scalar.addi v83 v84
  let c1_i32_24 : BitVec 32 := 1#32
  ⟨v88, v85, c1_i32_24⟩
def k0_off5 (i : grid0.Coords) (k0_t2 : Fin (k0_t2_loop i).trips) : Fin 2 → Nat :=
  let c0_26 : Index := 0#32
  let arg0 : BitVec 32 := BitVec.ofNat 32 (i 0).val
  let c1_i32 : BitVec 32 := 1#32
  let v83 : BitVec 32 := Scalar.addi arg0 c1_i32
  let c5_i32 : BitVec 32 := 5#32
  let v84 : BitVec 32 := Scalar.subi c5_i32 v83
  let c1_i32_22 : BitVec 32 := 1#32
  let v86 : BitVec 32 := Scalar.divsi v84 c1_i32_22
  let v87 : BitVec 32 := Scalar.muli v86 c1_i32_22
  let v88 : BitVec 32 := Scalar.addi v83 v87
  let c1_i32_24 : BitVec 32 := 1#32
  let arg9 : BitVec 32 := Scf.iv v88 c1_i32_24 k0_t2
  let c1024_i32_25 : BitVec 32 := 1024#32
  let v89 : BitVec 32 := Scalar.muli arg9 c1024_i32_25
  let v90 : Index := Scalar.indexCast v89
  ![0, v90.toNat]
def k0_off6 (i : grid0.Coords) (k0_t2 : Fin (k0_t2_loop i).trips) : Fin 2 → Nat :=
  let c0_33 : Index := 0#32
  let arg0 : BitVec 32 := BitVec.ofNat 32 (i 0).val
  let c1_i32 : BitVec 32 := 1#32
  let v83 : BitVec 32 := Scalar.addi arg0 c1_i32
  let c5_i32 : BitVec 32 := 5#32
  let v84 : BitVec 32 := Scalar.subi c5_i32 v83
  let c1_i32_22 : BitVec 32 := 1#32
  let v86 : BitVec 32 := Scalar.divsi v84 c1_i32_22
  let v87 : BitVec 32 := Scalar.muli v86 c1_i32_22
  let v88 : BitVec 32 := Scalar.addi v83 v87
  let c1_i32_24 : BitVec 32 := 1#32
  let arg9 : BitVec 32 := Scf.iv v88 c1_i32_24 k0_t2
  let c1024_i32_32 : BitVec 32 := 1024#32
  let v132 : BitVec 32 := Scalar.muli arg9 c1024_i32_32
  let v133 : Index := Scalar.indexCast v132
  ![0, v133.toNat]
def k0_cond4 (i : grid0.Coords) : BitVec 1 :=
  let arg0 : BitVec 32 := BitVec.ofNat 32 (i 0).val
  let c4_i32 : BitVec 32 := 4#32
  let v65 : BitVec 1 := Scalar.cmpi .eq arg0 c4_i32
  let v66 : BitVec 32 := Scalar.extui v65
  let c0_i32_12 : BitVec 32 := 0#32
  let v67 : BitVec 1 := Scalar.cmpi .ne v66 c0_i32_12
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5120x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S5000x2 : Shape := ⟨2, ![5000, 2]⟩
abbrev S5000x1x2 : Shape := ⟨3, ![5000, 1, 2]⟩
abbrev S1x5000x2 : Shape := ⟨3, ![1, 5000, 2]⟩
abbrev S5000x5000x2 : Shape := ⟨3, ![5000, 5000, 2]⟩
abbrev S5000x5000x1 : Shape := ⟨3, ![5000, 5000, 1]⟩
abbrev S5000x5000 : Shape := ⟨2, ![5000, 5000]⟩
abbrev S1x5000 : Shape := ⟨2, ![1, 5000]⟩
abbrev S1 : Shape := ⟨1, ![1]⟩
abbrev S100 : Shape := ⟨1, ![100]⟩
abbrev S100x1 : Shape := ⟨2, ![100, 1]⟩
abbrev S100x4 : Shape := ⟨2, ![100, 4]⟩
abbrev S100x5 : Shape := ⟨2, ![100, 5]⟩

abbrev nBuf : Space → Nat
  | .hbm => 153
  | .vmem => 0
  | .smem => 0
  | _ => 0

abbrev hbmTy0_0 (i : Nat) : BufTy := match i % 128 with
  | 0 => ⟨S5000x4, .f32⟩
  | 1 => ⟨S5000, .f32⟩
  | 2 => ⟨S_, .f32⟩
  | 3 => ⟨S5000, .f32⟩
  | 4 => ⟨S5000, .i1⟩
  | 5 => ⟨S_, .f32⟩
  | 6 => ⟨S_, .f32⟩
  | 7 => ⟨S5000, .f32⟩
  | 8 => ⟨S5000, .f32⟩
  | 9 => ⟨S5000, .f32⟩
  | 10 => ⟨S5000, .i32⟩
  | 11 => ⟨S5000, .f32⟩
  | 12 => ⟨S5000, .i32⟩
  | 13 => ⟨S_, .i32⟩
  | 14 => ⟨S5000, .i32⟩
  | 15 => ⟨S5000, .i1⟩
  | 16 => ⟨S_, .i32⟩
  | 17 => ⟨S5000, .i32⟩
  | 18 => ⟨S5000, .i32⟩
  | 19 => ⟨S5000, .i32⟩
  | 20 => ⟨S5000x1, .i32⟩
  | 21 => ⟨S5000x4, .f32⟩
  | 22 => ⟨S_, .i32⟩
  | 23 => ⟨S5000, .i32⟩
  | 24 => ⟨S5000, .i1⟩
  | 25 => ⟨S_, .i32⟩
  | 26 => ⟨S5000, .i32⟩
  | 27 => ⟨S5000, .i32⟩
  | 28 => ⟨S5000, .i32⟩
  | 29 => ⟨S5000x1, .i32⟩
  | 30 => ⟨S5000, .f32⟩
  | 31 => ⟨S5000x1, .f32⟩
  | 32 => ⟨S5000, .f32⟩
  | 33 => ⟨S5000x1, .f32⟩
  | 34 => ⟨S5000, .f32⟩
  | 35 => ⟨S5000, .f32⟩
  | 36 => ⟨S5000x1, .f32⟩
  | 37 => ⟨S5000, .f32⟩
  | 38 => ⟨S5000x1, .f32⟩
  | 39 => ⟨S5000, .f32⟩
  | 40 => ⟨S5000, .f32⟩
  | 41 => ⟨S5000, .f32⟩
  | 42 => ⟨S5000x1, .f32⟩
  | 43 => ⟨S5000, .f32⟩
  | 44 => ⟨S5000x1, .f32⟩
  | 45 => ⟨S5000, .f32⟩
  | 46 => ⟨S5000, .f32⟩
  | 47 => ⟨S5000x1, .f32⟩
  | 48 => ⟨S5000, .f32⟩
  | 49 => ⟨S5000x1, .f32⟩
  | 50 => ⟨S5000, .f32⟩
  | 51 => ⟨S5000, .f32⟩
  | 52 => ⟨S5000, .f32⟩
  | 53 => ⟨S5000x2, .f32⟩
  | 54 => ⟨S5000x1x2, .f32⟩
  | 55 => ⟨S5000x2, .f32⟩
  | 56 => ⟨S1x5000x2, .f32⟩
  | 57 => ⟨S5000x5000x2, .f32⟩
  | 58 => ⟨S5000x5000x2, .f32⟩
  | 59 => ⟨S5000x5000x2, .f32⟩
  | 60 => ⟨S5000x2, .f32⟩
  | 61 => ⟨S5000x1x2, .f32⟩
  | 62 => ⟨S5000x2, .f32⟩
  | 63 => ⟨S1x5000x2, .f32⟩
  | 64 => ⟨S5000x5000x2, .f32⟩
  | 65 => ⟨S5000x5000x2, .f32⟩
  | 66 => ⟨S5000x5000x2, .f32⟩
  | 67 => ⟨S5000x5000x2, .f32⟩
  | 68 => ⟨S_, .f32⟩
  | 69 => ⟨S_, .f32⟩
  | 70 => ⟨S5000x5000x2, .f32⟩
  | 71 => ⟨S5000x5000x2, .f32⟩
  | 72 => ⟨S5000x5000x1, .f32⟩
  | 73 => ⟨S5000x5000, .f32⟩
  | 74 => ⟨S5000x5000x1, .f32⟩
  | 75 => ⟨S5000x5000, .f32⟩
  | 76 => ⟨S5000x5000, .f32⟩
  | 77 => ⟨S5000x1, .f32⟩
  | 78 => ⟨S1x5000, .f32⟩
  | 79 => ⟨S5000x5000, .f32⟩
  | 80 => ⟨S5000x5000, .f32⟩
  | 81 => ⟨S5000x5000, .f32⟩
  | 82 => ⟨S5000x5000, .f32⟩
  | 83 => ⟨S_, .f32⟩
  | 84 => ⟨S5000x5000, .f32⟩
  | 85 => ⟨S5000x5000, .f32⟩
  | 86 => ⟨S5000x5000, .f32⟩
  | 87 => ⟨S5000, .i32⟩
  | 88 => ⟨S_, .f32⟩
  | 89 => ⟨S5000, .f32⟩
  | 90 => ⟨S5000, .i1⟩
  | 91 => ⟨S5000, .i32⟩
  | 92 => ⟨S_, .i32⟩
  | 93 => ⟨S5000, .i32⟩
  | 94 => ⟨S5000x5000, .f32⟩
  | 95 => ⟨S5000, .i32⟩
  | 96 => ⟨S_, .i32⟩
  | 97 => ⟨S5000, .i1⟩
  | 98 => ⟨S_, .i32⟩
  | 99 => ⟨S_, .i1⟩
  | 100 => ⟨S1, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S1x5000, .f32⟩
  | 116 => ⟨S5000, .f32⟩
  | 117 => ⟨S_, .f32⟩
  | 118 => ⟨S5000, .f32⟩
  | 119 => ⟨S5000, .i1⟩
  | 120 => ⟨S5000, .i32⟩
  | 121 => ⟨S5000, .i1⟩
  | 122 => ⟨S5000, .i1⟩
  | 123 => ⟨S_, .i32⟩
  | 124 => ⟨S_, .i1⟩
  | 125 => ⟨S_, .i32⟩
  | 126 => ⟨S_, .i32⟩
  | 127 => ⟨S_, .i32⟩
  | _ => ⟨S5000x4, .f32⟩

abbrev hbmTy0_1 (i : Nat) : BufTy := match i % 128 with
  | 0 => ⟨S1, .i1⟩
  | 1 => ⟨S_, .i1⟩
  | 2 => ⟨S5000, .i1⟩
  | 3 => ⟨S5000, .i1⟩
  | 4 => ⟨S5000, .i1⟩
  | 5 => ⟨S5000, .i1⟩
  | 6 => ⟨S_, .i32⟩
  | 7 => ⟨S_, .i32⟩
  | 8 => ⟨S_, .f32⟩
  | 9 => ⟨S_, .f32⟩
  | 10 => ⟨S5000, .f32⟩
  | 11 => ⟨S5000, .f32⟩
  | 12 => ⟨S100, .f32⟩
  | 13 => ⟨S100, .i32⟩
  | 14 => ⟨S_, .i32⟩
  | 15 => ⟨S100, .i32⟩
  | 16 => ⟨S100, .i1⟩
  | 17 => ⟨S_, .i32⟩
  | 18 => ⟨S100, .i32⟩
  | 19 => ⟨S100, .i32⟩
  | 20 => ⟨S100, .i32⟩
  | 21 => ⟨S100x1, .i32⟩
  | 22 => ⟨S100x4, .f32⟩
  | 23 => ⟨S100x1, .f32⟩
  | 24 => ⟨S100x5, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_call1_v0 : Ref sig .tc := ⟨.hbm, 10, rfl⟩
abbrev main_call1_v1_0 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_4 : Ref sig .tc := ⟨.hbm, 68, rfl⟩
abbrev main_call2_v0 : Ref sig .tc := ⟨.hbm, 69, rfl⟩
abbrev main_call2_v1 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_5 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_6 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_c_7 : Ref sig .tc := ⟨.hbm, 92, rfl⟩
abbrev main_v75_0 : Ref sig .tc := ⟨.hbm, 93, rfl⟩
abbrev main_v75_1 : Ref sig .tc := ⟨.hbm, 94, rfl⟩
abbrev main_v75_2 : Ref sig .tc := ⟨.hbm, 95, rfl⟩
abbrev main_v75_3 : Ref sig .tc := ⟨.hbm, 96, rfl⟩
abbrev main_v75_4 : Ref sig .tc := ⟨.hbm, 97, rfl⟩
abbrev main_while0c_c_15 : Ref sig .tc := ⟨.hbm, 98, rfl⟩
abbrev main_while0c_v86 : Ref sig .tc := ⟨.hbm, 99, rfl⟩
abbrev main_while0b_call3_v0 : Ref sig .tc := ⟨.hbm, 100, rfl⟩
abbrev main_while0b_v86 : Ref sig .tc := ⟨.hbm, 101, rfl⟩
abbrev main_while0b_c_15 : Ref sig .tc := ⟨.hbm, 102, rfl⟩
abbrev main_while0b_v87 : Ref sig .tc := ⟨.hbm, 103, rfl⟩
abbrev main_while0b_c_16 : Ref sig .tc := ⟨.hbm, 104, rfl⟩
abbrev main_while0b_v88 : Ref sig .tc := ⟨.hbm, 105, rfl⟩
abbrev main_while0b_v89 : Ref sig .tc := ⟨.hbm, 106, rfl⟩
abbrev main_while0b_c_17 : Ref sig .tc := ⟨.hbm, 107, rfl⟩
abbrev main_while0b_c_18 : Ref sig .tc := ⟨.hbm, 108, rfl⟩
abbrev main_while0b_v90 : Ref sig .tc := ⟨.hbm, 109, rfl⟩
abbrev main_while0b_c_19 : Ref sig .tc := ⟨.hbm, 110, rfl⟩
abbrev main_while0b_c_20 : Ref sig .tc := ⟨.hbm, 111, rfl⟩
abbrev main_while0b_v91 : Ref sig .tc := ⟨.hbm, 112, rfl⟩
abbrev main_while0b_c_21 : Ref sig .tc := ⟨.hbm, 113, rfl⟩
abbrev main_while0b_v92 : Ref sig .tc := ⟨.hbm, 114, rfl⟩
abbrev main_while0b_v93 : Ref sig .tc := ⟨.hbm, 115, rfl⟩
abbrev main_while0b_v94 : Ref sig .tc := ⟨.hbm, 116, rfl⟩
abbrev main_while0b_cst_22 : Ref sig .tc := ⟨.hbm, 117, rfl⟩
abbrev main_while0b_v95 : Ref sig .tc := ⟨.hbm, 118, rfl⟩
abbrev main_while0b_v96 : Ref sig .tc := ⟨.hbm, 119, rfl⟩
abbrev main_while0b_v97 : Ref sig .tc := ⟨.hbm, 120, rfl⟩
abbrev main_while0b_v98 : Ref sig .tc := ⟨.hbm, 121, rfl⟩
abbrev main_while0b_v99 : Ref sig .tc := ⟨.hbm, 122, rfl⟩
abbrev main_while0b_c_23 : Ref sig .tc := ⟨.hbm, 123, rfl⟩
abbrev main_while0b_v100 : Ref sig .tc := ⟨.hbm, 124, rfl⟩
abbrev main_while0b_c_24 : Ref sig .tc := ⟨.hbm, 125, rfl⟩
abbrev main_while0b_v101 : Ref sig .tc := ⟨.hbm, 126, rfl⟩
abbrev main_while0b_v102 : Ref sig .tc := ⟨.hbm, 127, rfl⟩
abbrev main_while0b_v103 : Ref sig .tc := ⟨.hbm, 128, rfl⟩
abbrev main_while0b_v104 : Ref sig .tc := ⟨.hbm, 129, rfl⟩
abbrev main_while0b_v105 : Ref sig .tc := ⟨.hbm, 130, rfl⟩
abbrev main_while0b_v106 : Ref sig .tc := ⟨.hbm, 131, rfl⟩
abbrev main_while0b_v107 : Ref sig .tc := ⟨.hbm, 132, rfl⟩
abbrev main_while0b_v108 : Ref sig .tc := ⟨.hbm, 133, rfl⟩
abbrev main_while0b_c_25 : Ref sig .tc := ⟨.hbm, 134, rfl⟩
abbrev main_while0b_v109 : Ref sig .tc := ⟨.hbm, 135, rfl⟩
abbrev main_cst_8 : Ref sig .tc := ⟨.hbm, 136, rfl⟩
abbrev main_call4_v0 : Ref sig .tc := ⟨.hbm, 137, rfl⟩
abbrev main_call4_v1 : Ref sig .tc := ⟨.hbm, 138, rfl⟩
abbrev main_v76 : Ref sig .tc := ⟨.hbm, 139, rfl⟩
abbrev main_values : Ref sig .tc := ⟨.hbm, 140, rfl⟩
abbrev main_indices : Ref sig .tc := ⟨.hbm, 141, rfl⟩
abbrev main_c_9 : Ref sig .tc := ⟨.hbm, 142, rfl⟩
abbrev main_v77 : Ref sig .tc := ⟨.hbm, 143, rfl⟩
abbrev main_v78 : Ref sig .tc := ⟨.hbm, 144, rfl⟩
abbrev main_c_10 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩

abbrev nD : Nat := 1
abbrev τ : Topo := Topo.v7x

variable {F : FTy → Type} [FloatOps F]

abbrev main_while0_count : Scf.Loop 32 := ⟨0#32, 5000#32, 1#32⟩
-- ==== Proof.RI.Frame.lean ====
/-
  The reference's run: it ends with its arguments as they were and its result at the fold of its operations.
-/
module

public import proofs.«01_k».proof.Proof.Gen.ReferenceIdeal.Run
public import Idealize.ShloMosaic.Lib.Claim
public import Idealize.ShloMosaic.Lib.Quiescent

@[expose] public section

noncomputable section

namespace Cert.ReferenceIdeal.Nms

open Cert.ReferenceIdeal Cert.ReferenceIdeal.Gen Cert.ReferenceIdeal.Value
open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ) (ρ : Dev nD → PrngReg)

/-- A buffer no operation before the loop writes holds at the loop's entry what it held at the launch. -/
theorem entry_keep (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) :
    entryContents preI m c (Proc.devRef .tc r) = m ((c.tc : Thread nD τ).loc r) := by
  show afterL _ _ _ = _
  simp only [afterL_cons, afterL_nil]
  rw [after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- A buffer the loop does not write holds before every trip what it held at the loop's entry. -/
theorem trip_keep (c : Dev nD) (r : Ref sig .tc) (hc : r ∉ condOps_W) (h0 : r ∉ while0Ops0_W) (h1 : r ∉ while0Ops0_1_W) :
    ∀ k, atK m k c (Proc.devRef .tc r) = entryContents preI m c (Proc.devRef .tc r)
  | 0 => rfl
  | k + 1 => by
    show afterL bodyI (after condOps (atK m k c)) _ = _
    simp only [afterL_cons, afterL_nil]
    rw [after_of_writes_sub while0Ops0_1 _ while0Ops0_1_writes h1, after_of_writes_sub while0Ops0 _ while0Ops0_writes h0,
      after_of_writes_sub condOps _ condOps_writes hc]
    exact trip_keep c r hc h0 h1 k

/-- The buffers the operations after the loop write, stretch by stretch. -/
abbrev post7_W : List (Ref sig .tc) := [main_cst_8]
abbrev post8_W : List (Ref sig .tc) := [main_call4_v0, main_call4_v1, main_v76]
abbrev post9_W : List (Ref sig .tc) := [main_values, main_indices, main_c_9, main_v77, main_v78, main_c_10, main_v79, main_v80, main_v81, main_v82, main_v83, main_v84, main_v85]
theorem post7_writes : (hostOps0_7 : List (HloOp τ sig (Elt F))).Forall fun op => op.writes ⊆ (post7_W.map (Proc.devRef (τ := τ) .tc)).toFinset :=
  StableHlo.forall_writes_sub_of_map rfl
theorem post8_writes : (hostOps0_8 : List (HloOp τ sig (Elt F))).Forall fun op => op.writes ⊆ (post8_W.map (Proc.devRef (τ := τ) .tc)).toFinset :=
  StableHlo.forall_writes_sub_of_map rfl
theorem post9_writes : (hostOps0_9 : List (HloOp τ sig (Elt F))).Forall fun op => op.writes ⊆ (post9_W.map (Proc.devRef (τ := τ) .tc)).toFinset :=
  StableHlo.forall_writes_sub_of_map rfl

/-- A buffer the operations after the loop do not write ends as it was before the loop's last test. -/
theorem post_keep (c : Dev nD) (r : Ref sig .tc) (hc : r ∉ condOps_W) (h7 : r ∉ post7_W) (h8 : r ∉ post8_W) (h9 : r ∉ post9_W) :
    finalContents condOps preI bodyI postI 5000 m c (Proc.devRef .tc r) = atK m 5000 c (Proc.devRef .tc r) := by
  show afterL postI (after condOps (atK m 5000 c)) _ = _
  simp only [afterL_cons, afterL_nil]
  rw [after_of_writes_sub hostOps0_9 _ post9_writes h9, after_of_writes_sub hostOps0_8 _ post8_writes h8,
    after_of_writes_sub hostOps0_7 _ post7_writes h7, after_of_writes_sub condOps _ condOps_writes hc]

/-- The first argument ends as it was. -/
theorem final_arg0 (c : Dev nD) : finalContents condOps preI bodyI postI 5000 m c (Proc.devRef .tc main_arg0) = m ((c.tc : Thread nD τ).loc main_arg0) :=
  (post_keep m c main_arg0 (by decide) (by decide) (by decide) (by decide)).trans
    ((trip_keep m c main_arg0 (by decide) (by decide) (by decide) 5000).trans
      (entry_keep m c main_arg0 (by decide) (by decide) (by decide) (by decide) (by decide) (by decide) (by decide)))

/-- The second argument ends as it was. -/
theorem final_arg1 (c : Dev nD) : finalContents condOps preI bodyI postI 5000 m c (Proc.devRef .tc main_arg1) = m ((c.tc : Thread nD τ).loc main_arg1) :=
  (post_keep m c main_arg1 (by decide) (by decide) (by decide) (by decide)).trans
    ((trip_keep m c main_arg1 (by decide) (by decide) (by decide) 5000).trans
      (entry_keep m c main_arg1 (by decide) (by decide) (by decide) (by decide) (by decide) (by decide) (by decide)))

/-- What the reference's result buffer ends at. -/
def result (c : Dev nD) : Buf (Elt F) ((c.tc : Thread nD τ).loc main_v85) := finalContents condOps preI bodyI postI 5000 m c (Proc.devRef .tc main_v85)

/-- THE RUN: the result ends at its fold and the arguments end as they were. -/
theorem run_value : θ_run (defs (F := F)) (onTc (τ := τ) (main (F := F))) ⟨m, fun _ => 0, ρ⟩ (fun r => ∀ c : Dev nD,
      r.2.mem ((c.tc : Thread nD τ).loc main_v85) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c main_v85 rfl, (h c main_arg0 rfl).trans (final_arg0 m c), (h c main_arg1 rfl).trans (final_arg1 m c)⟩) (run_fold m ρ)

/-- THE FRAME: the arguments end as they were and every semaphore counter at zero (there is none). -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (run_value m ρ)

end Cert.ReferenceIdeal.Nms

end
-- ==== Proof.Rules.lean ====
/-
  Loads and stores of a memref held by what it reads: a memref owned at the array `X` is loaded at a rectangle of unit
  strides by a window of `X`, and stored there by `X` with the payload put over that window.
-/
module

public import Idealize.ShloMosaic.Lib.VecWindow
public import Idealize.ShloMosaic.Lib.Memref
public import Idealize.ShloMosaic.Lib.Tactic

@[expose] public section

noncomputable section

namespace Cert.Nms

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels}

local notation "𝕄" => MT nD τ sig Ix Val Name U Lvl

variable [Preorder Lvl] {defs : Defs nD τ sig Val Λ} (𝒱 : Variants) (c : Thread nD τ) (bd : Option 𝒱.V) (E : Set Name)
variable {s : Shape} {e : EltTy} {cs : CoreSpace}
variable {α : Type} {Q : α → sProp (MT nD τ sig Ix Val Name U Lvl)}

/-- A load at a unit-stride rectangle of a memref owned at `X` hands on the window of `X`. -/
theorem wp_load_window {m : Memref sig c.2.kind cs s e} {off size : Fin s.rank → ℕ} {inb : ∀ a, off a + size a ≤ s.size a}
    {hl : m.view.LoadsAt (Rect.unit off size inb).toLoadRect}
    {k : ((Rect.unit off size inb).shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k (VecWindow.window X off size inb)) Q)
        -∗ wp frame (wpE defs 𝒱 c bd) E (.op (.load m (Rect.unit off size inb).toLoadRect hl) k) Q) := by
  unfold owns
  iintro ⟨%f, %hf, H⟩ Hk
  iapply (wp_load 𝒱 c bd E (m := m) (S := m.view.set) (q := q) (f := f) (View.setOn_subset_set m.view _)) $$ H
  iintro H
  have h : m.view.readAt Val (Rect.unit off size inb).toLoadRect f = VecWindow.window X off size inb := by
    rw [View.readAt_unit m.view f inb rfl inb, hf]
  rw [h]
  iapply Hk
  iexists f
  isplitr
  · ipureintro; exact hf
  iexact H

/-- A load of the memref's own sizes hands on all of `X`. -/
theorem wp_load_whole {m : Memref sig c.2.kind cs s e} {off : Fin s.rank → ℕ} {inb : ∀ a, off a + s.size a ≤ s.size a}
    {hl : m.view.LoadsAt (Rect.unit off s.size inb).toLoadRect}
    {k : ((Rect.unit off s.size inb).shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k X) Q)
        -∗ wp frame (wpE defs 𝒱 c bd) E (.op (.load m (Rect.unit off s.size inb).toLoadRect hl) k) Q) := by
  unfold owns
  iintro ⟨%f, %hf, H⟩ Hk
  iapply (wp_load 𝒱 c bd E (m := m) (S := m.view.set) (q := q) (f := f) (View.setOn_subset_set m.view _)) $$ H
  iintro H
  have h : m.view.readAt Val (Rect.unit off s.size inb).toLoadRect f = X := by
    rw [View.readAt_full m.view f inb, hf]
  rw [h]
  iapply Hk
  iexists f
  isplitr
  · ipureintro; exact hf
  iexact H

/-- An unmasked store at a unit-stride rectangle of a memref owned at `X` leaves `X` with the payload put there. -/
theorem wp_store_put {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : Finset.univ = Finset.univ ∨ ∀ a, (Rect.unit off size inb).stride a = 1}
    {k : PUnit → Prog (TpuEff nD τ sig Val Λ c.2) α} {X : s.Idx → Val e} :
    (owns c m fullShare X : sProp 𝕄)
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  iapply (wp_store_writes₀ 𝒱 c bd E (m := m) (S := m.view.set) (f := f) (View.set_slice_subset m.view _)) $$ H
  iintro H
  iapply Hk
  iexists _
  isplitr
  swap; · iexact H
  ipureintro
  rw [View.read_writes_cons_put m.view f inb w [] rfl, View.writes_nil, hf]

/-- An unmasked store of the memref's own sizes leaves the payload. -/
theorem wp_store_whole {m : Memref sig c.2.kind cs s e} {off : Fin s.rank → ℕ} {inb : ∀ a, off a + s.size a ≤ s.size a}
    {w : (Rect.unit off s.size inb).shape.Idx → Val e} {hx : (m.access (Rect.unit off s.size inb)).Stores Finset.univ}
    {hm : Finset.univ = Finset.univ ∨ ∀ a, (Rect.unit off s.size inb).stride a = 1}
    {k : PUnit → Prog (TpuEff nD τ sig Val Λ c.2) α} {X : s.Idx → Val e} :
    (owns c m fullShare X : sProp 𝕄)
      ⊢ iprop((owns c m fullShare (w : s.Idx → Val e) -∗ wp frame (wpE defs 𝒱 c bd) E (k ⟨⟩) Q)
        -∗ wp frame (wpE defs 𝒱 c bd) E (.op (.store m (Rect.unit off s.size inb) w Finset.univ hx hm) k) Q) := by
  unfold owns
  iintro ⟨%f, %hf, H⟩ Hk
  iapply (wp_store_writes₀ 𝒱 c bd E (m := m) (S := m.view.set) (f := f) (View.set_slice_subset m.view _)) $$ H
  iintro H
  iapply Hk
  iexists _
  isplitr
  swap; · iexact H
  ipureintro
  exact View.read_writes_full m.view f inb w []

end Cert.Nms

end
-- ==== Proof.KI.Setup.lean ====
/-
  The launch's set-up: the host lines around the region, the blocks the windows hand the body, and the two conditions
  on the grid point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import proofs.«01_k».proof.Proof.Rules
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Nms

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program around the region: the host lines before it, the region, the host lines after it. -/
theorem hmain (𝒱₀ : Variants) : Pipeline.HMainK (Ix := Unit) (Name := ℕ) (U := UR sig nD τ) (Lvl := ℕ) (cfgs (F := F)) 0 defs₀ 𝒱₀ m (main (F := F)) (V m)
      (fun _ => Pipeline.chain ([hostOps1].map StableHlo.seq)) :=
  Pipeline.hmain_around (cfgs (F := F)) 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch the region's arrays and the other unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch₀0 (F := F)).win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem arr_ne0 : ∀ w : Fin 7, Pipeline.arrRef spec0 w ≠ main_arg0 := by decide
theorem arr_ne1 : ∀ w : Fin 7, Pipeline.arrRef spec0 w ≠ main_arg1 := by decide
/-- No host operation after the region writes `main_arg0`: it ends as launched. -/
theorem W_main_arg0 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact arr_ne0)]
  exact V_main_arg0 m c
/-- No host operation after the region writes `main_arg1`: it ends as launched. -/
theorem W_main_arg1 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact arr_ne1)]
  exact V_main_arg1 m c
/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's buffer holds its block at every point. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run that ends with the arrays as the proof data says leaves both arguments as they were launched. -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (Pipeline.afterTail₀ (cfgs (F := F)) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) arr_ne0)).trans (W_main_arg0 m dats c)),
      (((h c).2 main_arg1 (Pipeline.mem_restRefs_of main_arg1 (by decide) arr_ne1)).trans (W_main_arg1 m dats c))⟩) h

/-! ## The body's branch conditions -/

/-- The condition of the body's first `scf.if`: the point is the first. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin (cfg0 (F := F)).N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, e0]
    word_cmp
   : ∀ t : Fin grid0.N, cond0_0 (grid0.coords t) ↔ t.val % 5 = 0)

/-- The condition of the body's last `scf.if`: the point is the last. -/
abbrev cond0_1 (i : grid0.Coords) : Prop := k0_cond4 i = 1#1
/-- It holds at the last point only — by arithmetic of the point. -/
theorem hcond0_1 : ∀ t : Fin (cfg0 (F := F)).N, cond0_1 (grid0.coords t) ↔ t.val % 5 = 4 :=
  (fun t => by
    have ht : t.val < 5 := Nat.lt_of_lt_of_eq t.isLt N_0
    have e0 : (grid0.coords t 0).val = t.val / 1 % 5 := Pipeline.Grid.coords_val t 0 (by decide) rfl
    simp only [cond0_1, k0_cond4, e0]
    word_cmp
   : ∀ t : Fin grid0.N, cond0_1 (grid0.coords t) ↔ t.val % 5 = 4)

/-! ## Where the windows are idle -/

/-- Window 0 is never idle (an input). -/
theorem liveAt0_0 : ∀ t : Fin (cfg0 (F := F)).N, (cfg0 (F := F)).idle 0 (grid0.coords t) = false := fun _ => rfl
/-- Window 1 is never idle (an input). -/
theorem liveAt0_1 : ∀ t : Fin (cfg0 (F := F)).N, (cfg0 (F := F)).idle 1 (grid0.coords t) = false := fun _ => rfl
/-- Window 2 is never idle (an input). -/
theorem liveAt0_2 : ∀ t : Fin (cfg0 (F := F)).N, (cfg0 (F := F)).idle 2 (grid0.coords t) = false := fun _ => rfl
/-- Window 3 is never idle (an input). -/
theorem liveAt0_3 : ∀ t : Fin (cfg0 (F := F)).N, (cfg0 (F := F)).idle 3 (grid0.coords t) = false := fun _ => rfl
/-- Window 4 is never idle (an input). -/
theorem liveAt0_4 : ∀ t : Fin (cfg0 (F := F)).N, (cfg0 (F := F)).idle 4 (grid0.coords t) = false := fun _ => rfl
/-- Window 6 is never idle (an output stored at every point, under no condition). -/
theorem liveAt0_6 : ∀ t : Fin (cfg0 (F := F)).N, (cfg0 (F := F)).idle 6 (grid0.coords t) = false := fun _ => rfl
/-- Before the last point output 5 is idle: nothing is stored into it. -/
theorem idleAt0_5 : ∀ t : Fin (cfg0 (F := F)).N, ¬cond0_1 (grid0.coords t) → (cfg0 (F := F)).idle 5 (grid0.coords t) = true :=
  (by decide +kernel : ∀ t : Fin grid0.N, ¬cond0_1 (grid0.coords t) → idle0 5 (grid0.coords t) = true)
/-- Before the last point output 5's block is not written back. -/
theorem noFlush0_5 : ∀ t : Fin (cfg0 (F := F)).N, ¬cond0_1 (grid0.coords t) → ((cfg0 (F := F)).win 5).flush t = false :=
  (by decide +kernel : ∀ t : Fin grid0.N, ¬cond0_1 (grid0.coords t) → (win0 5).flush t = false)
/-- At the last point output 5 is stored. -/
theorem liveAt0_5 : ∀ t : Fin (cfg0 (F := F)).N, cond0_1 (grid0.coords t) → (cfg0 (F := F)).idle 5 (grid0.coords t) = false :=
  (by decide +kernel : ∀ t : Fin grid0.N, cond0_1 (grid0.coords t) → idle0 5 (grid0.coords t) = false)

/-! ## The staging buffers -/

/-- Each window's current staging memref at point `t`, spelled as the pipeline passes it (`bodyAt0`), and its wholeness. -/
abbrev ms0_0 (t : Fin (cfg0 (F := F)).N) : Memref sig .tc .vmem S1024x4 .f32 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S4x5120 .f32 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S4x1024 .f32 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S1x5120 .f32 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S5120x8 .f32 := win0_4.stage ((cfg0 (F := F)).slots t 4)
abbrev hs0_4 (t : Fin (cfg0 (F := F)).N) : (ms0_4 t).IsWhole := hstage0_4 (((cfg0 (F := F)).slots t 4).cast nbuf0_4)
abbrev ms0_5 (t : Fin (cfg0 (F := F)).N) : Memref sig .tc .vmem S100x8 .f32 := win0_5.stage ((cfg0 (F := F)).slots t 5)
abbrev hs0_5 (t : Fin (cfg0 (F := F)).N) : (ms0_5 t).IsWhole := hstage0_5 (((cfg0 (F := F)).slots t 5).cast nbuf0_5)
abbrev ms0_6 (t : Fin (cfg0 (F := F)).N) : Memref sig .tc .vmem S1x5120 .f32 := win0_6.stage ((cfg0 (F := F)).slots t 6)
abbrev hs0_6 (t : Fin (cfg0 (F := F)).N) : (ms0_6 t).IsWhole := hstage0_6 (((cfg0 (F := F)).slots t 6).cast nbuf0_6)
/-- The scratch operands: whole scoped buffers of the kernel's own, passed beside the windows. -/
abbrev scM0_0 : Memref sig .tc .smem S1 .f32 := Memref.whole cc0_scratch0
/-- The region's invariant, with the scratch word as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Nms

end
-- ==== Proof.KI.Model.lean ====
/-
  What one grid point computes, as plain functions of arrays: the marks of the boxes still kept, the count of the boxes
  kept so far, and the rows of the result.
-/
module

public import proofs.«01_k».proof.Proof.KI.Setup

@[expose] public section

noncomputable section

namespace Cert.KernelIdeal.Nms

open Cert.KernelIdeal.Gen
open Idealize.ShloMosaic Idealize.ShloMosaic.TcCoe

variable {F : FTy → Type} [FloatOps F]

/-- The marks of one block: the window of 1024 marks at the given offsets. -/
abbrev marks (keep : Vec F S1x5120 .f32) (off : Fin 2 → ℕ) (inb : ∀ a, off a + S1x1024.size a ≤ S1x5120.size a) : Vec F S1x1024 .f32 :=
  VecWindow.window keep off S1x1024.size inb

/-- Which box of a block suppresses which later box of the same block. -/
def inner (x0 : Vec F S1024x4 .f32) (x2 : Vec F S4x1024 .f32) : FVec F S1024x1024 .bf16 :=
  k0_pay1 (k0_pay30 x0 x2) (k0_pay31 x0 x2) k0_pay32

/-- The marks after at most `n` passes over the block: a pass is made while the bit is set, and the next bit says
    whether the pass changed any mark. -/
def passes (M : FVec F S1024x1024 .bf16) (k0 : FVec F S1x1024 .f32) : ℕ → FVec F S1x1024 .f32 → BitVec 1 → FVec F S1x1024 .f32
  | 0, k, _ => k
  | n + 1, k, b =>
    if b = 1#1 then passes M k0 n (k0_pay8 M k0 k) (Scalar.cmpf .ogt (k0_pay9 M k0 k) (Scalar.ofBits .f32 0x00000000#32)) else k

/-- Fewer than 100 boxes are kept so far. -/
def open' (n : F .f32) : BitVec 1 := Scalar.cmpf .olt n (Scalar.ofBits .f32 0x42C80000#32)

/-- The marks a point starts from: at the first point those of the scores above the threshold. -/
def keepAt (i : grid0.Coords) (x3 : Vec F S1x5120 .f32) (keep : Vec F S1x5120 .f32) : Vec F S1x5120 .f32 :=
  if cond0_0 i then k0_pay18 x3 else keep

/-- The count a point starts from: zero at the first point. -/
def cntAt (i : grid0.Coords) (n : F .f32) : F .f32 := if cond0_0 i then Scalar.ofBits .f32 0x00000000#32 else n

/-- The marks of the point's own block after its passes. -/
def settled (i : grid0.Coords) (x0 : Vec F S1024x4 .f32) (x2 : Vec F S4x1024 .f32) (keep : Vec F S1x5120 .f32) (n : F .f32) : FVec F S1x1024 .f32 :=
  passes (inner x0 x2) (k0_pay2 (marks keep (k0_off1 i) (k0_off1_inb i))) 1026 (k0_pay2 (marks keep (k0_off1 i) (k0_off1_inb i))) (open' n)

/-- One later block's marks after the point's kept boxes have suppressed what they overlap. -/
def swept (i : grid0.Coords) (x0 : Vec F S1024x4 .f32) (x1 : Vec F S4x5120 .f32) (kf : FVec F S1x1024 .f32) (t : Fin (k0_t1_loop i).trips)
    (keep : Vec F S1x5120 .f32) : Vec F S1x5120 .f32 :=
  VecWindow.put keep (k0_off4 i t) S1x1024.size
    (k0_pay5 (k0_pay10 (marks keep (k0_off4 i t) (k0_off4_inb i t)))
      (k0_pay11 (k0_pay20 x0) (k0_pay21 x0) (k0_pay22 x0) (k0_pay23 x0) (k0_pay24 x0) (k0_pay4 kf)
        (VecWindow.window x1 (k0_off3 i t) S4x1024.size (k0_off3_inb i t))))

/-- The marks after the first `n` later blocks. -/
def sweeps (i : grid0.Coords) (x0 : Vec F S1024x4 .f32) (x1 : Vec F S4x5120 .f32) (kf : FVec F S1x1024 .f32) (keep : Vec F S1x5120 .f32) : ℕ → Vec F S1x5120 .f32
  | 0 => keep
  | n + 1 => if h : n < (k0_t1_loop i).trips then swept i x0 x1 kf ⟨n, h⟩ (sweeps i x0 x1 kf keep n) else sweeps i x0 x1 kf keep n

/-- The marks with the point's own block settled. -/
def placed (i : grid0.Coords) (kf : FVec F S1x1024 .f32) (keep : Vec F S1x5120 .f32) : Vec F S1x5120 .f32 :=
  VecWindow.put keep (k0_off2 i) S1x1024.size kf

/-- The marks a point leaves, from the marks and the count it starts from. -/
def keepStep (i : grid0.Coords) (x0 : Vec F S1024x4 .f32) (x1 : Vec F S4x5120 .f32) (x2 : Vec F S4x1024 .f32) (keep : Vec F S1x5120 .f32) (n : F .f32) :
    Vec F S1x5120 .f32 :=
  if open' n = 1#1 then
    if open' (k0_pay3 (settled i x0 x2 keep n) n) = 1#1 then
      sweeps i x0 x1 (settled i x0 x2 keep n) (placed i (settled i x0 x2 keep n) keep) (k0_t1_loop i).trips
    else placed i (settled i x0 x2 keep n) keep
  else keep

/-- The count a point leaves, from the marks and the count it starts from. -/
def cntStep (i : grid0.Coords) (x0 : Vec F S1024x4 .f32) (x2 : Vec F S4x1024 .f32) (keep : Vec F S1x5120 .f32) (n : F .f32) : F .f32 :=
  if open' n = 1#1 then k0_pay3 (settled i x0 x2 keep n) n else n

/-- The result's rows, from the final marks. -/
def rows (x3 : Vec F S1x5120 .f32) (x4 : Vec F S5120x8 .f32) (keep : Vec F S1x5120 .f32) : Vec F S100x8 .f32 :=
  k0_pay7 (k0_pay14 keep) (k0_pay15 keep) (k0_pay16 keep x4) k0_pay17 x3

/-- The marks after a point. -/
def keepOut (i : grid0.Coords) (x0 : Vec F S1024x4 .f32) (x1 : Vec F S4x5120 .f32) (x2 : Vec F S4x1024 .f32) (x3 : Vec F S1x5120 .f32)
    (keep : Vec F S1x5120 .f32) (n : F .f32) : Vec F S1x5120 .f32 :=
  keepStep i x0 x1 x2 (keepAt i x3 keep) (cntAt i n)

/-- The count after a point. -/
def cntOut (i : grid0.Coords) (x0 : Vec F S1024x4 .f32) (x2 : Vec F S4x1024 .f32) (x3 : Vec F S1x5120 .f32) (keep : Vec F S1x5120 .f32) (n : F .f32) : F .f32 :=
  cntStep i x0 x2 (keepAt i x3 keep) (cntAt i n)

/-- The result's buffer after a point: its rows at the last point, and what was there before it otherwise. -/
def rowsOut (i : grid0.Coords) (x3 : Vec F S1x5120 .f32) (x4 : Vec F S5120x8 .f32) (out : Vec F S100x8 .f32) (keep : Vec F S1x5120 .f32) : Vec F S100x8 .f32 :=
  if cond0_1 i then rows x3 x4 keep else out

/-- The one place of the scratch word. -/
abbrev at0 : S1.Idx := Shape.Idx.first (numel1_S1.symm ▸ Nat.one_pos)

/-- An array of the scratch word's shape is its one value everywhere. -/
theorem scratch_eq (xs : Vec F S1 .f32) : xs = fun _ => xs at0 :=
  funext fun y => congrArg xs (by
    have h1 := numel1_S1
    have := Fintype.card_le_one_iff_subsingleton.mp (le_of_eq ((Shape.card_idx (s := S1)).trans h1))
    exact Subsingleton.elim _ _)

end Cert.KernelIdeal.Nms

end
-- ==== Proof.KI.While.lean ====
/-
  The passes' loop. Its label, called with the bit and the counter that leave `n` passes to make, hands back the marks
  after those passes.
-/
module

public import proofs.«01_k».proof.Proof.KI.Model

@[expose] public section

noncomputable section

namespace Cert.KernelIdeal.Nms

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Calls of the label are bounded by the number of passes still to make. -/
abbrev bound : Variants := Variants.nat

/-- The label hands back marks that are those after `n` passes, beside a bit and a counter of which nothing is said. -/
def passSpec (M : FVec F S1024x1024 .bf16) (k0 : FVec F S1x1024 .f32) (n : ℕ) (k : FVec F S1x1024 .f32) (b : BitVec 1) :
    sWPT 𝕄 (FVec F S1x1024 .f32 × BitVec 1 × BitVec 32) := do
  let r ← sWPT.arbitrary
  sWPT.assume (r.1 = passes M k0 n k b)
  pure r

theorem passSpec_apply (M : FVec F S1024x1024 .bf16) (k0 : FVec F S1x1024 .f32) (n : ℕ) (k : FVec F S1x1024 .f32) (b : BitVec 1)
    (K : FVec F S1x1024 .f32 × BitVec 1 × BitVec 32 → sProp 𝕄) :
    passSpec M k0 n k b K = iprop(∀ r : FVec F S1x1024 .f32 × BitVec 1 × BitVec 32, ⌜r.1 = passes M k0 n k b⌝ -∗ K r) := rfl

/-- With passes to make the counter is below its limit. -/
theorem below_limit (n : ℕ) (hn : n + 1 ≤ 1026) : Scalar.cmpi .slt (BitVec.ofNat 32 (1026 - (n + 1))) 1026#32 = 1#1 := by
  have h : ∀ n : Fin 1026, Scalar.cmpi .slt (BitVec.ofNat 32 (1026 - (n.val + 1))) 1026#32 = 1#1 := by decide +kernel
  exact h ⟨n, by omega⟩

/-- The counter's next value. -/
theorem next_count (n : ℕ) (hn : n + 1 ≤ 1026) : Scalar.addi (BitVec.ofNat 32 (1026 - (n + 1))) 1#32 = BitVec.ofNat 32 (1026 - n) := by
  have h : ∀ n : Fin 1026, Scalar.addi (BitVec.ofNat 32 (1026 - (n.val + 1))) 1#32 = BitVec.ofNat 32 (1026 - n.val) := by decide +kernel
  exact h ⟨n, by omega⟩

/-- The label's body meets its specification, by induction on the passes left. -/
theorem passSpec_le (c : Dev nD) (i : grid0.Coords) (M : FVec F S1024x1024 .bf16) (k0 : FVec F S1x1024 .f32) (E : Set ℕ) :
    ∀ n, n ≤ 1026 → ∀ (k : FVec F S1x1024 .f32) (b : BitVec 1) (K : FVec F S1x1024 .f32 × BitVec 1 × BitVec 32 → sProp 𝕄),
      passSpec M k0 n k b K
        ⊢ wp frame (wpE (defs₀ (F := F)) bound (c : Thread nD τ) (some n)) E
            (defs₀ (F := F) .tc 1 ⟨i, M, k0, k, b, BitVec.ofNat 32 (1026 - n)⟩) K := by
  intro n
  induction n with
  | zero =>
    intro _ k b K
    rw [passSpec_apply]
    show _ ⊢ wp frame (wpE (defs₀ (F := F)) bound (c : Thread nD τ) (some 0)) E (cc0_while1 i M k0 k b (BitVec.ofNat 32 (1026 - 0))) K
    simp only [cc0_while1_eq_skeleton]; unfold cc0_while1_skel
    have hs : Scalar.cmpi .slt (BitVec.ofNat 32 (1026 - 0)) 1026#32 = 0#1 := by decide
    have htest : ¬Scalar.andi b (Scalar.cmpi .slt (BitVec.ofNat 32 (1026 - 0)) 1026#32) = 1#1 := by
      rw [hs]; revert b; decide
    simp only [htest, ↓reduceIte, Prog.pure_eq_ret]
    iintro Hk
    rw [wp_ret]; imodintro
    iapply Hk
    ipureintro; rfl
  | succ n ih =>
    intro hn k b K
    rw [passSpec_apply]
    show _ ⊢ wp frame (wpE (defs₀ (F := F)) bound (c : Thread nD τ) (some (n + 1))) E (cc0_while1 i M k0 k b (BitVec.ofNat 32 (1026 - (n + 1)))) K
    simp only [cc0_while1_eq_skeleton]; unfold cc0_while1_skel
    have htest : (Scalar.andi b (Scalar.cmpi .slt (BitVec.ofNat 32 (1026 - (n + 1))) 1026#32) = 1#1) ↔ b = 1#1 := by
      rw [below_limit n hn]; revert b; decide
    by_cases hb : b = 1#1
    · have ht := htest.mpr hb
      simp only [ht, ↓reduceIte, Prog.lift, Prog.bind_op, Prog.bind_ret, Prog.pure_eq_ret]
      rw [next_count n hn]
      iintro Hk
      iapply (wp_call_spec bound (c : Thread nD τ) (some (n + 1)) E
        (passSpec M k0 n (k0_pay8 M k0 k) (Scalar.cmpf .ogt (k0_pay9 M k0 k) (Scalar.ofBits .f32 0x00000000#32))) n
        (fun u hu => by cases hu; exact Nat.lt_succ_self n)
        (ih (by omega) _ _))
      rw [passSpec_apply]
      iintro %r %hr
      rw [wp_ret]; imodintro
      iapply Hk
      ipureintro
      rw [hr, passes, if_pos hb]
    · have ht : ¬Scalar.andi b (Scalar.cmpi .slt (BitVec.ofNat 32 (1026 - (n + 1))) 1026#32) = 1#1 := fun h => hb (htest.mp h)
      simp only [ht, ↓reduceIte, Prog.pure_eq_ret]
      iintro Hk
      rw [wp_ret]; imodintro
      iapply Hk
      ipureintro
      rw [passes, if_neg hb]

end Cert.KernelIdeal.Nms

end
-- ==== Proof.KI.Body.lean ====
/-
  The kernel's body at one point, on any staging buffers: from what the buffers hold to what `Model` says they hold
  afterwards. The body is run in four stretches: the first point's set-up and the loads, the passes' loop, the later
  blocks, and the last point's rows.
-/
module

public import proofs.«01_k».proof.Proof.KI.While
public import Idealize.ShloMosaic.Lib.LoopRemainder

@[expose] public section

noncomputable section

namespace Cert.KernelIdeal.Nms

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Nms

variable {F : FTy → Type} [FloatOps F]

local notation "𝕄" => MT nD τ sig Unit (Elt F) ℕ (UR sig nD τ) ℕ

section Body

variable (c : Dev nD) (i : grid0.Coords) (arg1 : Memref sig .tc .vmem S1024x4 .f32) (harg1 : arg1.IsWhole) (arg2 : Memref sig .tc .vmem S4x5120 .f32) (harg2 : arg2.IsWhole) (arg3 : Memref sig .tc .vmem S4x1024 .f32) (harg3 : arg3.IsWhole) (arg4 : Memref sig .tc .vmem S1x5120 .f32) (harg4 : arg4.IsWhole) (arg5 : Memref sig .tc .vmem S5120x8 .f32) (harg5 : arg5.IsWhole) (arg6 : Memref sig .tc .vmem S100x8 .f32) (harg6 : arg6.IsWhole) (arg7 : Memref sig .tc .vmem S1x5120 .f32) (harg7 : arg7.IsWhole) (arg8 : Memref sig .tc .smem S1 .f32) (harg8 : arg8.IsWhole)

/-- The stretch of the body that stores the result's rows at the last point. -/
def tailProg : Prog (TpuEff nD τ sig (Elt F) (Λ₀ F) .tc) PUnit := do
  if k0_h4 : k0_cond4 i = 1#1 then do
    let ⟨v69, v111, v114, v115⟩ : Σ' (v69 : FVec F S1x5120 .f32) (v111 : FVec F S100x5120 .f32) (v114 : FVec F S100x8 .f32), FVec F S1x5120 .f32 ← k0_part3 i arg1 harg1 arg2 harg2 arg3 harg3 arg4 harg4 arg5 harg5 arg6 harg6 arg7 harg7 arg8 harg8
    let v117 : Vec F S1x5120 .f32 ← Prog.lift (.load arg4 (Rect.unit (s := S1x5120) ![0, 0] S1x5120.size inb_S1x5120_S1x5120_0_0).toLoadRect (View.loadsAt_vmem h_S1x5120))
    let v131 : Vec F S100x8 .f32 ← Prog.lift (.load arg6 (Rect.unit (s := S100x8) ![0, 0] S100x8.size inb_S100x8_S100x8_0_0).toLoadRect (View.loadsAt_vmem h_S100x8))
    Prog.lift (.store arg6 (Rect.unit (s := S100x8) ![0, 0] S100x8.size inb_S100x8_S100x8_0_0) (k0_pay7 v69 v111 v114 v115 v117) Finset.univ (View.stores_vmem_bits_univ h_S100x8 rfl) (.inl rfl))
    pure ⟨⟩
  else do
    pure ⟨⟩
  pure ⟨⟩

/-- The eight buffers of the body, held at the five inputs, the result's rows `out`, the marks `keep` and the count `n`. -/
def held (x0 : Vec F S1024x4 .f32) (x1 : Vec F S4x5120 .f32) (x2 : Vec F S4x1024 .f32) (x3 : Vec F S1x5120 .f32) (x4 : Vec F S5120x8 .f32)
    (out : Vec F S100x8 .f32) (keep : Vec F S1x5120 .f32) (n : F .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare out
    ∗ owns (c : Thread nD τ) arg7 fullShare keep ∗ owns (c : Thread nD τ) arg8 fullShare ((fun _ => n) : Vec F S1 .f32))

variable (x0 : Vec F S1024x4 .f32) (x1 : Vec F S4x5120 .f32) (x2 : Vec F S4x1024 .f32) (x3 : Vec F S1x5120 .f32) (x4 : Vec F S5120x8 .f32)
  (out : Vec F S100x8 .f32) (keep : Vec F S1x5120 .f32) (n : F .f32) (E : Set ℕ)

/-- The last stretch leaves the rows at the last point and everything as it was otherwise. -/
theorem tail_run (K : PUnit → sProp 𝕄) :
    iprop(held c arg1 arg2 arg3 arg4 arg5 arg6 arg7 arg8 x0 x1 x2 x3 x4 out keep n ∗ (held c arg1 arg2 arg3 arg4 arg5 arg6 arg7 arg8 x0 x1 x2 x3 x4 (rowsOut i x3 x4 out keep) keep n -∗ K ⟨⟩))
      ⊢ wp frame (wpE (defs₀ (F := F)) bound (c : Thread nD τ) none) E (tailProg i arg1 harg1 arg2 harg2 arg3 harg3 arg4 harg4 arg5 harg5 arg6 harg6 arg7 harg7 arg8 harg8) K := by
  unfold tailProg held rowsOut
  by_cases h : k0_cond4 i = 1#1
  · rw [if_pos h]
    simp only [h, ↓reduceDIte, k0_part3_eq_skeleton, k0_part3_skel, smemLoad, smemLoadElt, Prog.lift, Prog.bind_op, Prog.bind_ret, Prog.pure_eq_ret]
    iintro ⟨⟨H0, H1, H2, H3, H4, H5, H6, HS⟩, Hk⟩
    iapply (wp_load_whole bound (c : Thread nD τ) none E (m := arg7)) $$ H6; iintro H6
    iapply (wp_load_whole bound (c : Thread nD τ) none E (m := arg5)) $$ H4; iintro H4
    iapply (wp_load_whole bound (c : Thread nD τ) none E (m := arg4)) $$ H3; iintro H3
    iapply (wp_load_whole bound (c : Thread nD τ) none E (m := arg6)) $$ H5; iintro H5
    iapply (wp_store_whole bound (c : Thread nD τ) none E (m := arg6)) $$ H5; iintro H5
    rw [wp_ret]; imodintro
    iapply Hk
    unfold rows
    isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  · rw [if_neg h]
    simp only [h, ↓reduceDIte, Prog.lift, Prog.bind_op, Prog.bind_ret, Prog.pure_eq_ret]
    iintro ⟨H, Hk⟩
    rw [wp_ret]; imodintro
    iapply Hk
    iexact H

/-- The first stretch sets the marks and the count up at the first point, and hands on what it computes of the two blocks. -/
theorem head_run (K : (Σ' (arg0 : BitVec 32) (v4 : BitVec 1) (v7 : FVec F S1024x1 .f32) (v8 : FVec F S1024x1 .f32) (v9 : FVec F S1024x1 .f32) (v10 : FVec F S1024x1 .f32) (v13 : FVec F S1024x1 .f32) (v41 : FVec F S1024x1024 .f32) (v45 : FVec F S1024x1024 .f32), FVec F S1024x1024 .f32) → sProp 𝕄) :
    iprop(held c arg1 arg2 arg3 arg4 arg5 arg6 arg7 arg8 x0 x1 x2 x3 x4 out keep n ∗ (held c arg1 arg2 arg3 arg4 arg5 arg6 arg7 arg8 x0 x1 x2 x3 x4 out (keepAt i x3 keep) (cntAt i n)
        -∗ K ⟨BitVec.ofNat 32 (i 0).val, open' (cntAt i n), k0_pay20 x0, k0_pay21 x0, k0_pay22 x0, k0_pay23 x0, k0_pay24 x0, k0_pay30 x0 x2, k0_pay31 x0 x2, k0_pay32 (F := F)⟩))
      ⊢ wp frame (wpE (defs₀ (F := F)) bound (c : Thread nD τ) none) E (k0_part4 i arg1 harg1 arg2 harg2 arg3 harg3 arg4 harg4 arg5 harg5 arg6 harg6 arg7 harg7 arg8 harg8) K := by
  simp only [k0_part4_eq_skeleton]
  unfold k0_part4_skel held
  by_cases h : cond0_0 i
  · rw [show keepAt i x3 keep = k0_pay18 x3 from if_pos h, show cntAt i n = Scalar.ofBits .f32 0x00000000#32 from if_pos h]
    have h' : Scalar.cmpi .ne (Scalar.extui (Scalar.cmpi .eq (BitVec.ofNat 32 (i 0).val) 0#32)) 0#32 = 1#1 := h
    simp only [h', ↓reduceDIte, smemLoad, smemLoadElt, Prog.lift, Prog.bind_op, Prog.bind_ret, Prog.pure_eq_ret]
    iintro ⟨⟨H0, H1, H2, H3, H4, H5, H6, HS⟩, Hk⟩
    iapply (wp_load_whole bound (c : Thread nD τ) none E (m := arg4)) $$ H3; iintro H3
    iapply (wp_load_whole bound (c : Thread nD τ) none E (m := arg7)) $$ H6; iintro H6
    iapply (wp_store_whole bound (c : Thread nD τ) none E (m := arg7)) $$ H6; iintro H6
    iapply (wp_load_whole bound (c : Thread nD τ) none E (m := arg8)) $$ HS; iintro HS
    iapply (wp_store_whole bound (c : Thread nD τ) none E (m := arg8)) $$ HS; iintro HS
    iapply (wp_load_whole bound (c : Thread nD τ) none E (m := arg8)) $$ HS; iintro HS
    iapply (wp_load_whole bound (c : Thread nD τ) none E (m := arg1)) $$ H0; iintro H0
    iapply (wp_load_whole bound (c : Thread nD τ) none E (m := arg3)) $$ H2; iintro H2
    rw [wp_ret]; imodintro
    beta_reduce
    unfold open'
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  · rw [show keepAt i x3 keep = keep from if_neg h, show cntAt i n = n from if_neg h]
    have h' : ¬Scalar.cmpi .ne (Scalar.extui (Scalar.cmpi .eq (BitVec.ofNat 32 (i 0).val) 0#32)) 0#32 = 1#1 := h
    simp only [h', ↓reduceDIte, smemLoad, smemLoadElt, Prog.lift, Prog.bind_op, Prog.bind_ret, Prog.pure_eq_ret]
    iintro ⟨⟨H0, H1, H2, H3, H4, H5, H6, HS⟩, Hk⟩
    iapply (wp_load_whole bound (c : Thread nD τ) none E (m := arg8)) $$ HS; iintro HS
    iapply (wp_load_whole bound (c : Thread nD τ) none E (m := arg1)) $$ H0; iintro H0
    iapply (wp_load_whole bound (c : Thread nD τ) none E (m := arg3)) $$ H2; iintro H2
    rw [wp_ret]; imodintro
    beta_reduce
    unfold open'
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    iexact HS

/-- One trip over a later block. -/
theorem sweep_run (kf : FVec F S1x1024 .f32) (t : Fin (k0_t1_loop i).trips) (K : Unit → sProp 𝕄) :
    iprop(held c arg1 arg2 arg3 arg4 arg5 arg6 arg7 arg8 x0 x1 x2 x3 x4 out keep n ∗ (held c arg1 arg2 arg3 arg4 arg5 arg6 arg7 arg8 x0 x1 x2 x3 x4 out (swept i x0 x1 kf t keep) n -∗ K ⟨⟩))
      ⊢ wp frame (wpE (defs₀ (F := F)) bound (c : Thread nD τ) none) E
          (k0_t1_body i arg1 harg1 arg2 harg2 arg3 harg3 arg4 harg4 arg5 harg5 arg6 harg6 arg7 harg7 arg8 harg8 (k0_pay20 x0) (k0_pay21 x0) (k0_pay22 x0) (k0_pay23 x0) (k0_pay24 x0) kf (Scalar.addi (BitVec.ofNat 32 (i 0).val) 1#32) t ⟨⟩) K := by
  unfold k0_t1_body held
  simp only [k0_part1_eq_skeleton, k0_part1_skel, Prog.lift, Prog.bind_op, Prog.bind_ret, Prog.pure_eq_ret]
  iintro ⟨⟨H0, H1, H2, H3, H4, H5, H6, HS⟩, Hk⟩
  iapply (wp_load_window bound (c : Thread nD τ) none E (m := arg2)) $$ H1; iintro H1
  iapply (wp_load_window bound (c : Thread nD τ) none E (m := arg7)) $$ H6; iintro H6
  iapply (wp_load_window bound (c : Thread nD τ) none E (m := arg7)) $$ H6; iintro H6
  iapply (wp_store_put bound (c : Thread nD τ) none E (m := arg7)) $$ H6; iintro H6
  rw [wp_ret]; imodintro
  iapply Hk
  unfold swept
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HS

/-- One trip takes the marks after `t` later blocks to those after `t + 1`. -/
theorem sweep_step (kf : FVec F S1x1024 .f32) (t : Fin (k0_t1_loop i).trips) :
    (held c arg1 arg2 arg3 arg4 arg5 arg6 arg7 arg8 x0 x1 x2 x3 x4 out (sweeps i x0 x1 kf keep t) n : sProp 𝕄)
      ⊢ wp frame (wpE (defs₀ (F := F)) bound (c : Thread nD τ) none) E
          (k0_t1_body i arg1 harg1 arg2 harg2 arg3 harg3 arg4 harg4 arg5 harg5 arg6 harg6 arg7 harg7 arg8 harg8 (k0_pay20 x0) (k0_pay21 x0) (k0_pay22 x0) (k0_pay23 x0) (k0_pay24 x0) kf (Scalar.addi (BitVec.ofNat 32 (i 0).val) 1#32) t ⟨⟩)
          (fun _ => held c arg1 arg2 arg3 arg4 arg5 arg6 arg7 arg8 x0 x1 x2 x3 x4 out (sweeps i x0 x1 kf keep (t.val + 1)) n) := by
  rw [show sweeps i x0 x1 kf keep (t.val + 1) = swept i x0 x1 kf t (sweeps i x0 x1 kf keep t) from dif_pos t.isLt]
  iintro H
  iapply (sweep_run c i arg1 harg1 arg2 harg2 arg3 harg3 arg4 harg4 arg5 harg5 arg6 harg6 arg7 harg7 arg8 harg8 x0 x1 x2 x3 x4 out (sweeps i x0 x1 kf keep t) n E kf t _)
  isplitl [H]; · iexact H
  iintro H; iexact H

/-- The bit a test hands to a branch is the test's own. -/
theorem branch_bit (b : BitVec 1) : (Scalar.cmpi .ne (Scalar.extui b : BitVec 32) 0#32 = 1#1) ↔ b = 1#1 := by revert b; decide

/-- The remainder loop makes no trip. -/
theorem rem_trips (i : grid0.Coords) : (k0_t2_loop i).trips = 0 := Scf.rem_trips _ _

/-- THE BODY AT ONE POINT. Held at the inputs, the rows, the marks and the count, it leaves the rows, the marks and the
    count of the model. -/
theorem body_run (K : PUnit → sProp 𝕄) :
    iprop(held c arg1 arg2 arg3 arg4 arg5 arg6 arg7 arg8 x0 x1 x2 x3 x4 out keep n
        ∗ (held c arg1 arg2 arg3 arg4 arg5 arg6 arg7 arg8 x0 x1 x2 x3 x4 (rowsOut i x3 x4 out (keepOut i x0 x1 x2 x3 keep n)) (keepOut i x0 x1 x2 x3 keep n) (cntOut i x0 x2 x3 keep n) -∗ K ⟨⟩))
      ⊢ wp frame (wpE (defs₀ (F := F)) bound (c : Thread nD τ) none) E (cc0__nms_step i arg1 harg1 arg2 harg2 arg3 harg3 arg4 harg4 arg5 harg5 arg6 harg6 arg7 harg7 arg8 harg8) K := by
  simp only [cc0__nms_step_eq_skeleton]
  unfold cc0__nms_step_skel keepOut cntOut
  rw [wp_bind]
  iintro ⟨H, Hk⟩
  iapply (head_run c i arg1 harg1 arg2 harg2 arg3 harg3 arg4 harg4 arg5 harg5 arg6 harg6 arg7 harg7 arg8 harg8 x0 x1 x2 x3 x4 out keep n E)
  isplitl [H]; · iexact H
  generalize keepAt i x3 keep = keep
  generalize cntAt i n = n
  have ht := fun keep n K => tail_run c i arg1 harg1 arg2 harg2 arg3 harg3 arg4 harg4 arg5 harg5 arg6 harg6 arg7 harg7 arg8 harg8 x0 x1 x2 x3 x4 out keep n E K
  unfold tailProg at ht
  simp only [smemLoad, smemLoadElt, Prog.lift, Prog.bind_op, Prog.bind_ret, Prog.pure_eq_ret] at ht ⊢
  unfold held
  iintro ⟨H0, H1, H2, H3, H4, H5, H6, HS⟩
  iapply (wp_load_window bound (c : Thread nD τ) none E (m := arg7)) $$ H6; iintro H6
  iapply (wp_call_spec bound (c : Thread nD τ) none E
    (passSpec (inner x0 x2) (k0_pay2 (marks keep (k0_off1 i) (k0_off1_inb i))) 1026 (k0_pay2 (marks keep (k0_off1 i) (k0_off1_inb i))) (open' n)) 1026
    (fun u hu => nomatch hu) (passSpec_le c i _ _ E 1026 (le_refl _) _ _))
  rw [passSpec_apply]
  iintro %r %hr
  obtain ⟨kf, b, t⟩ := r
  have hr' : kf = settled i x0 x2 keep n := hr
  subst hr'
  by_cases h4 : open' n = 1#1
  · have hb : Scalar.cmpi .ne (Scalar.extui (open' n) : BitVec 32) 0#32 = 1#1 := (branch_bit _).mpr h4
    simp only [hb, ↓reduceIte, keepStep, cntStep, h4]
    iapply (wp_load_window bound (c : Thread nD τ) none E (m := arg7)) $$ H6; iintro H6
    iapply (wp_store_put bound (c : Thread nD τ) none E (m := arg7)) $$ H6; iintro H6
    iapply (wp_load_whole bound (c : Thread nD τ) none E (m := arg8)) $$ HS; iintro HS
    iapply (wp_load_whole bound (c : Thread nD τ) none E (m := arg8)) $$ HS; iintro HS
    iapply (wp_store_whole bound (c : Thread nD τ) none E (m := arg8)) $$ HS; iintro HS
    iapply (wp_load_whole bound (c : Thread nD τ) none E (m := arg8)) $$ HS; iintro HS
    by_cases h5 : open' (k0_pay3 (settled i x0 x2 keep n) n) = 1#1
    · have hb5 : Scalar.cmpi .ne (Scalar.extui (Scalar.cmpf .olt (k0_pay3 (settled i x0 x2 keep n) n) (Scalar.ofBits .f32 0x42C80000#32)) : BitVec 32) 0#32 = 1#1 := (branch_bit _).mpr h5
      simp only [hb5, ↓reduceIte, h5]
      iapply (Scf.wp_for_bind frame (wpE (defs₀ (F := F)) bound (c : Thread nD τ) none) E _ _ _ (k0_t1_ok i) ⟨⟩ _
        (fun t _ => held c arg1 arg2 arg3 arg4 arg5 arg6 arg7 arg8 x0 x1 x2 x3 x4 out
          (sweeps i x0 x1 (settled i x0 x2 keep n) (placed i (settled i x0 x2 keep n) keep) t) (k0_pay3 (settled i x0 x2 keep n) n))
        (fun t acc => sweep_step c i arg1 harg1 arg2 harg2 arg3 harg3 arg4 harg4 arg5 harg5 arg6 harg6 arg7 harg7 arg8 harg8 x0 x1 x2 x3 x4 out _ _ E _ t)) $$ [H0 H1 H2 H3 H4 H5 H6 HS]
      · unfold held sweeps placed
        isplitl [H0]; · iexact H0
        isplitl [H1]; · iexact H1
        isplitl [H2]; · iexact H2
        isplitl [H3]; · iexact H3
        isplitl [H4]; · iexact H4
        isplitl [H5]; · iexact H5
        isplitl [H6]; · iexact H6
        iexact HS
      iintro %acc H
      iapply (Scf.wp_for_bind frame (wpE (defs₀ (F := F)) bound (c : Thread nD τ) none) E _ _ _ (k0_t2_ok i) ⟨⟩ _
        (fun t _ => held c arg1 arg2 arg3 arg4 arg5 arg6 arg7 arg8 x0 x1 x2 x3 x4 out
          (sweeps i x0 x1 (settled i x0 x2 keep n) (placed i (settled i x0 x2 keep n) keep) (k0_t1_loop i).trips) (k0_pay3 (settled i x0 x2 keep n) n))
        (fun t acc => (Nat.not_lt_zero _ (lt_of_lt_of_eq t.isLt (rem_trips i))).elim)) $$ H
      iintro %acc' H
      iapply (ht _ _ _)
      isplitl [H]; · iexact H
      iexact Hk
    · have hb5 : ¬Scalar.cmpi .ne (Scalar.extui (Scalar.cmpf .olt (k0_pay3 (settled i x0 x2 keep n) n) (Scalar.ofBits .f32 0x42C80000#32)) : BitVec 32) 0#32 = 1#1 := fun h => h5 ((branch_bit _).mp h)
      simp only [hb5, ↓reduceIte, h5]
      iapply (ht _ _ _)
      unfold held placed
      isplitl [H0 H1 H2 H3 H4 H5 H6 HS]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact HS
      iexact Hk
  · have hb : ¬Scalar.cmpi .ne (Scalar.extui (open' n) : BitVec 32) 0#32 = 1#1 := fun h => h4 ((branch_bit _).mp h)
    simp only [hb, ↓reduceIte, keepStep, cntStep, h4]
    iapply (ht _ _ _)
    unfold held
    isplitl [H0 H1 H2 H3 H4 H5 H6 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    iexact Hk

/-- The same with what it leaves named. -/
theorem body_run_eq (out' : Vec F S100x8 .f32) (keep' : Vec F S1x5120 .f32) (n' : F .f32) (hk : keepOut i x0 x1 x2 x3 keep n = keep')
    (hn : cntOut i x0 x2 x3 keep n = n') (ho : rowsOut i x3 x4 out keep' = out') (K : PUnit → sProp 𝕄) :
    iprop(held c arg1 arg2 arg3 arg4 arg5 arg6 arg7 arg8 x0 x1 x2 x3 x4 out keep n ∗ (held c arg1 arg2 arg3 arg4 arg5 arg6 arg7 arg8 x0 x1 x2 x3 x4 out' keep' n' -∗ K ⟨⟩))
      ⊢ wp frame (wpE (defs₀ (F := F)) bound (c : Thread nD τ) none) E (cc0__nms_step i arg1 harg1 arg2 harg2 arg3 harg3 arg4 harg4 arg5 harg5 arg6 harg6 arg7 harg7 arg8 harg8) K := by
  subst hk hn ho
  exact body_run c i arg1 harg1 arg2 harg2 arg3 harg3 arg4 harg4 arg5 harg5 arg6 harg6 arg7 harg7 arg8 harg8 x0 x1 x2 x3 x4 out keep n E K

end Body

end Cert.KernelIdeal.Nms

end
-- ==== Proof.KI.Frame.lean ====
/-
  The launch of the kernel: what the marks, the count and the result hold after each point, the pipeline's proof data, the
  body at a generic point, and the run.
-/
module

public import proofs.«01_k».proof.Proof.KI.Body
public import Idealize.ShloMosaic.Lib.Claim

@[expose] public section

noncomputable section

namespace Cert.KernelIdeal.Nms

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first point what the marks and the count held before does not matter. -/
theorem keepOut_first (i : grid0.Coords) (h : cond0_0 i) (x0 : Vec F S1024x4 .f32) (x1 : Vec F S4x5120 .f32) (x2 : Vec F S4x1024 .f32) (x3 : Vec F S1x5120 .f32)
    (keep keep' : Vec F S1x5120 .f32) (n n' : F .f32) : keepOut i x0 x1 x2 x3 keep n = keepOut i x0 x1 x2 x3 keep' n' := by
  unfold keepOut keepAt cntAt; rw [if_pos h, if_pos h, if_pos h, if_pos h]

/-- At the first point what the marks and the count held before does not matter. -/
theorem cntOut_first (i : grid0.Coords) (h : cond0_0 i) (x0 : Vec F S1024x4 .f32) (x2 : Vec F S4x1024 .f32) (x3 : Vec F S1x5120 .f32)
    (keep keep' : Vec F S1x5120 .f32) (n n' : F .f32) : cntOut i x0 x2 x3 keep n = cntOut i x0 x2 x3 keep' n' := by
  unfold cntOut keepAt cntAt; rw [if_pos h, if_pos h, if_pos h, if_pos h]

variable (m : (ℓ : Loc nD τ sig) → Buf (Elt F) ℓ) (ρ : Dev nD → PrngReg)

/-- The marks and the count before point `n` (before the first point, no matter what). -/
def state (c : Dev nD) : ℕ → Vec F S1x5120 .f32 × F .f32
  | 0 => (fun _ => Scalar.ofBits .f32 0x00000000#32, Scalar.ofBits .f32 0x00000000#32)
  | n + 1 => if h : n < (cfg0 (F := F)).N then
      (keepOut (grid0.coords ⟨n, h⟩) (iblk m c 0 ⟨n, h⟩) (iblk m c 1 ⟨n, h⟩) (iblk m c 2 ⟨n, h⟩) (iblk m c 3 ⟨n, h⟩) (state c n).1 (state c n).2,
        cntOut (grid0.coords ⟨n, h⟩) (iblk m c 0 ⟨n, h⟩) (iblk m c 2 ⟨n, h⟩) (iblk m c 3 ⟨n, h⟩) (state c n).1 (state c n).2)
    else state c n

/-- One point takes the marks and the count before it to those after it. -/
theorem state_succ (c : Dev nD) (t : Fin (cfg0 (F := F)).N) :
    state m c (t.val + 1) = (keepOut (grid0.coords t) (iblk m c 0 t) (iblk m c 1 t) (iblk m c 2 t) (iblk m c 3 t) (state m c t.val).1 (state m c t.val).2,
        cntOut (grid0.coords t) (iblk m c 0 t) (iblk m c 2 t) (iblk m c 3 t) (state m c t.val).1 (state m c t.val).2) := dif_pos t.isLt

/-- What the region holds of its own before position `n`: the scratch word at the count, and the generator at some state. -/
def PhiS (c : Dev nD) : (n : ℕ) → n ≤ (cfg0 (F := F)).N → sProp 𝕄
  | 0, _ => Pipeline.ΦA spec0 c
  | n + 1, _ => iprop(iprop(owns (c : Thread nD τ) scM0_0 fullShare (fun _ => (state m c (n + 1)).2)) ∗ (∃ r, prngReg c r))

theorem PhiS_zero (c : Dev nD) (n : ℕ) (h : n ≤ (cfg0 (F := F)).N) (hz : n = 0) : PhiS m c n h = Pipeline.ΦA spec0 c := by
  subst hz; rfl

theorem PhiS_pos (c : Dev nD) (n : ℕ) (h : n ≤ (cfg0 (F := F)).N) (hz : n ≠ 0) :
    PhiS m c n h = iprop(iprop(owns (c : Thread nD τ) scM0_0 fullShare (fun _ => (state m c n).2)) ∗ (∃ r, prngReg c r)) := by
  cases n with
  | zero => exact absurd rfl hz
  | succ n => rfl

/-! ## The pipeline's proof data -/

/-- The arrays as the region finds them; after a point each input's buffer at its block, the result's at the rows the marks
    give, and the marks' at the marks. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rows (iblk m c 3 t) (iblk m c 4 t) (state m c (t.val + 1)).1
    | ⟨6, _⟩ => (state m c (t.val + 1)).1
  Φ t := PhiS m c t.val (Nat.le_of_lt_succ t.isLt)
  q w := Pipeline.shareOf spec0 w
  owed _ := 0

theorem A_eq (c : Dev nD) (w : Fin (cfg0 (F := F)).W) : (dats m 0 c).A w = V m c (Pipeline.arrRef spec0 w) := by
  dsimp only [dats]

theorem PhiS_castSucc (c : Dev nD) (t : Fin (cfg0 (F := F)).N) :
    (dats m 0 c).Φ t.castSucc = PhiS m c t.val (Nat.le_of_lt t.isLt) := by
  dsimp only [dats]; exact Pipeline.Dat.Φ_castSucc (PhiS m c) t

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = rows (iblk m c 3 t) (iblk m c 4 t) (state m c (t.val + 1)).1 := by dsimp only [dats]; rfl
theorem after0_6 (c : Dev nD) (t : Fin (cfg0 (F := F)).N) : (dats m 0 c).after 6 t = (state m c (t.val + 1)).1 := by dsimp only [dats]; rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d
/-- Past the first point the marks' buffer holds what the point before left there. -/
theorem before0_6 (c : Dev nD) (t : Fin (cfg0 (F := F)).N) (h0 : t.val ≠ 0) (d) : (dats m 0 c).before 6 t d = (state m c t.val).1 := by
  have hN : t.val < 5 := lt_of_lt_of_eq t.isLt (show (cfg0 (F := F)).N = 5 from N_0)
  refine (Dat.before_out_kept _ 6 rfl t (by omega) (Bool.eq_false_iff.mpr fun h => by have := (flush0_6 _).mp h; dsimp only at this; omega)
    (fun _ => rfl) (fun _ _ => rfl) d).trans ((after0_6 m c _).trans ?_)
  show (state m c (t.val - 1 + 1)).1 = _
  rw [Nat.sub_add_cancel (Nat.pos_of_ne_zero h0)]

/-! ## The body at a generic point -/

/-- What the body is called with at a point, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin (cfg0 (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- What a point leaves in the result's buffer, from the marks it leaves. -/
theorem leaves5 (c : Dev nD) (t : Fin (cfg0 (F := F)).N) (d) (x : Vec F S100x8 .f32)
    (hx : x = rowsOut (grid0.coords t) (iblk m c 3 t) (iblk m c 4 t) ((dats m 0 c).before 5 t d) (state m c (t.val + 1)).1) :
    owns (c : Thread nD τ) (ms0_5 t) fullShare x ⊢ (dats m 0 c).leavesExact 5 t := by
  by_cases h1 : cond0_1 (grid0.coords t)
  · rw [show (dats m 0 c).leavesExact 5 t = owns (c : Thread nD τ) (ms0_5 t) fullShare ((dats m 0 c).after 5 t) from by
      unfold Dat.leavesExact; rw [liveAt0_5 t h1]; rfl, after0_5]
    rw [show x = rows (iblk m c 3 t) (iblk m c 4 t) (state m c (t.val + 1)).1 from hx.trans (if_pos h1)]
  · rw [Dat.leavesExact_idle (dats m 0 c) 5 t (idleAt0_5 t h1) (noFlush0_5 t h1)]
    rw [show x = (dats m 0 c).before 5 t d from hx.trans (if_neg h1)]
    iintro H; iexists _; iexact H

set_option maxHeartbeats 1600000 in
/-- THE BODY AT ANY POINT: the inputs' buffers hold their blocks, the marks' and the scratch word what the point before
    left there, and the body leaves the next marks and count. -/
theorem sound_body (c : Dev nD) (t : Fin (cfg0 (F := F)).N) :
    bodyPre m c t ⊢ wp frame (wpE (defs₀ (F := F)) bound c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [show (dats m 0 c).leavesExact 0 t = owns (c : Thread nD τ) (ms0_0 t) fullShare ((dats m 0 c).after 0 t) from by
    unfold Dat.leavesExact; rw [liveAt0_0 t]; rfl, after0_0]
  rw [show (dats m 0 c).leavesExact 1 t = owns (c : Thread nD τ) (ms0_1 t) fullShare ((dats m 0 c).after 1 t) from by
    unfold Dat.leavesExact; rw [liveAt0_1 t]; rfl, after0_1]
  rw [show (dats m 0 c).leavesExact 2 t = owns (c : Thread nD τ) (ms0_2 t) fullShare ((dats m 0 c).after 2 t) from by
    unfold Dat.leavesExact; rw [liveAt0_2 t]; rfl, after0_2]
  rw [show (dats m 0 c).leavesExact 3 t = owns (c : Thread nD τ) (ms0_3 t) fullShare ((dats m 0 c).after 3 t) from by
    unfold Dat.leavesExact; rw [liveAt0_3 t]; rfl, after0_3]
  rw [show (dats m 0 c).leavesExact 4 t = owns (c : Thread nD τ) (ms0_4 t) fullShare ((dats m 0 c).after 4 t) from by
    unfold Dat.leavesExact; rw [liveAt0_4 t]; rfl, after0_4]
  rw [show (dats m 0 c).leavesExact 6 t = owns (c : Thread nD τ) (ms0_6 t) fullShare ((dats m 0 c).after 6 t) from by
    unfold Dat.leavesExact; rw [liveAt0_6 t]; rfl, after0_6]
  have hN : t.val < 5 := lt_of_lt_of_eq t.isLt (show (cfg0 (F := F)).N = 5 from N_0)
  by_cases hz : t.val = 0
  · have h0 : cond0_0 (grid0.coords t) := (hcond0_0 t).mpr (by omega)
    rw [PhiS_castSucc m c t, PhiS_zero m c _ _ hz, PhiA0_eq]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
    iapply (body_run_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) ((dats m 0 c).before 5 t d5) ((dats m 0 c).before 6 t d6) (ds at0) Set.univ
      (rowsOut (grid0.coords t) (iblk m c 3 t) (iblk m c 4 t) ((dats m 0 c).before 5 t d5) (state m c (t.val + 1)).1) (state m c (t.val + 1)).1 (state m c (t.val + 1)).2
      ((keepOut_first (grid0.coords t) h0 _ _ _ _ _ _ _ _).trans (congrArg Prod.fst (state_succ m c t)).symm) ((cntOut_first (grid0.coords t) h0 _ _ _ _ _ _ _).trans (congrArg Prod.snd (state_succ m c t)).symm) rfl _)
    isplitl [H0 H1 H2 H3 H4 H5 H6 HS]
    · unfold held
      rw [← scratch_eq ds]
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    unfold held
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t d5 _ rfl); iexact H5
    iexact H6
  · rw [PhiS_castSucc m c t, PhiS_pos m c _ _ hz]
    simp only [before0_6 m c t hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (body_run_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) ((dats m 0 c).before 5 t d5) (state m c t.val).1 (state m c t.val).2 Set.univ
      (rowsOut (grid0.coords t) (iblk m c 3 t) (iblk m c 4 t) ((dats m 0 c).before 5 t d5) (state m c (t.val + 1)).1) (state m c (t.val + 1)).1 (state m c (t.val + 1)).2
      ((congrArg Prod.fst (state_succ m c t)).symm) ((congrArg Prod.snd (state_succ m c t)).symm) rfl _)
    isplitl [H0 H1 H2 H3 H4 H5 H6 HS]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    unfold held
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t d5 _ rfl); iexact H5
    iexact H6

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) bound () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin ((cfg0 (F := F)).N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last (cfg0 (F := F)).N) ⊢ Pipeline.ΦA spec0 c :=
  Phi_out m c _ (by rw [Fin.val_last]; have : (cfg0 (F := F)).N = 5 := N_0; omega)

/-! ## The run and the frame -/

-- `θ_run_frame_around_track_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost (cfgs (F := F)) (dats m) 0 (Pipeline.afterTail₀ (cfgs (F := F)) (dats m) 0 (V0 m) [hostOps1])) r ∧ r.2.sem = fun _ => 0) :=
  Pipeline.θ_run_frame_around_track_shared (Q' := _) (cfgs (F := F)) (dats m) (0 : Fin 1) (launch₀0 (F := F)) defs₀ bound m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m bound) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost (cfgs (F := F)) (dats m) 0 (Pipeline.afterTail₀ (cfgs (F := F)) (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Nms

end
-- ==== Proof.Maths.Greedy.lean ====
/-
  Greedy suppression as a predicate on positions: a box is kept when it starts eligible and no earlier kept box
  suppresses it.  The kernel works block by block and stops early; this module says what its marks are after each block,
  and that the first hundred places they give are the ones the full selection gives.
-/
module

public import Mathlib.Data.Nat.Count
public import Mathlib.Tactic.Ring

@[expose] public section

noncomputable section

namespace Cert.Nms

open scoped Classical

/-- `R` is the greedy selection from the eligible positions `init` under "`i` suppresses `j`". -/
def Greedy (init : ℕ → Prop) (S : ℕ → ℕ → Prop) (R : ℕ → Prop) : Prop := ∀ j, R j ↔ init j ∧ ∀ i < j, R i → ¬ S i j

/-- How many of the positions below `n` satisfy `K`. -/
def cnt (K : ℕ → Prop) (n : ℕ) : ℕ := Nat.count K n

theorem cnt_succ (K : ℕ → Prop) (n : ℕ) : cnt K (n + 1) = cnt K n + if K n then 1 else 0 := Nat.count_succ K n

/-- The count only looks below its bound. -/
theorem cnt_congr {K K' : ℕ → Prop} {n : ℕ} (h : ∀ j < n, K j ↔ K' j) : cnt K n = cnt K' n := by
  induction n with
  | zero => rfl
  | succ n ih =>
    rw [cnt_succ, cnt_succ, ih fun j hj => h j (by omega)]
    simp only [h n (by omega)]

theorem cnt_mono (K : ℕ → Prop) {a b : ℕ} (h : a ≤ b) : cnt K a ≤ cnt K b := Nat.count_monotone K h

/-- A position that counts makes the count past it larger. -/
theorem cnt_lt_of (K : ℕ → Prop) {a b : ℕ} (h : a < b) (ha : K a) : cnt K a < cnt K b := Nat.count_strict_mono ha h

theorem cnt_add (K : ℕ → Prop) (a b : ℕ) : cnt K (a + b) = cnt K a + cnt (fun j => K (a + j)) b := Nat.count_add K a b

/-- The positions that count and those that do not make up all of them. -/
theorem cnt_not (K : ℕ → Prop) (n : ℕ) : cnt (fun j => ¬ K j) n + cnt K n = n := by
  induction n with
  | zero => rfl
  | succ n ih =>
    rw [cnt_succ, cnt_succ]
    by_cases h : K n <;> simp only [h, not_true_eq_false, not_false_eq_true, if_true, if_false] <;> omega

theorem cnt_le (K : ℕ → Prop) (n : ℕ) : cnt K n ≤ n := Nat.count_le K

/-! ## One block's passes -/

/-- One pass over a block: a position is kept when it starts eligible and nothing marked suppresses it. -/
def pass (n : ℕ) (init : ℕ → Prop) (M : ℕ → ℕ → Prop) (k : ℕ → Prop) : ℕ → Prop := fun j => init j ∧ ¬ ∃ i < n, k i ∧ M i j

/-- The passes: each is made while the flag holds, and the next flag says whether the pass changed a mark. -/
def passed (n : ℕ) (init : ℕ → Prop) (M : ℕ → ℕ → Prop) : ℕ → (ℕ → Prop) → Prop → (ℕ → Prop)
  | 0, k, _ => k
  | f + 1, k, b => if b then passed n init M f (pass n init M k) (∃ j < n, ¬ (pass n init M k j ↔ k j)) else k

/-- The marks below `m` are settled: each is what the marks before it say. -/
def SettledTo (init : ℕ → Prop) (M : ℕ → ℕ → Prop) (k : ℕ → Prop) (m : ℕ) : Prop :=
  ∀ j < m, k j ↔ init j ∧ ∀ i < j, k i → ¬ M i j

variable {n : ℕ} {init : ℕ → Prop} {M : ℕ → ℕ → Prop}

/-- A pass over marks settled below `m` keeps those and settles the next. -/
theorem pass_settled (hM : ∀ i j, M i j → i < j) {k : ℕ → Prop} {m : ℕ} (hm : m < n) (h : SettledTo init M k m) :
    SettledTo init M (pass n init M k) (m + 1) := by
  have key : ∀ j ≤ m, pass n init M k j ↔ init j ∧ ∀ i < j, k i → ¬ M i j := by
    intro j hj
    refine and_congr_right fun _ => ⟨fun H i hi hk hs => H ⟨i, by omega, hk, hs⟩, fun H ⟨i, hi, hk, hs⟩ => H i (hM _ _ hs) hk hs⟩
  have same : ∀ j < m, pass n init M k j ↔ k j := fun j hj => (key j (by omega)).trans (h j hj).symm
  intro j hj
  rw [key j (by omega)]
  exact and_congr_right fun _ => forall₂_congr fun i hi => by rw [same i (by omega)]

/-- The pass over marks that it does not change: they are settled. -/
theorem settled_of_same (hM : ∀ i j, M i j → i < j) {k : ℕ → Prop} (h : ∀ j < n, pass n init M k j ↔ k j) : SettledTo init M k n := by
  intro j hj
  rw [← h j hj]
  exact and_congr_right fun _ => ⟨fun H i hi hk hs => H ⟨i, by omega, (hk), hs⟩, fun H ⟨i, hi, hk, hs⟩ => H i (hM _ _ hs) (hk) hs⟩

theorem settled_mono {k : ℕ → Prop} {m m' : ℕ} (h : SettledTo init M k m) (hm : m' ≤ m) : SettledTo init M k m' :=
  fun j hj => h j (by omega)

/-- THE PASSES SETTLE: started with the flag set, and allowed more passes than there are positions left, they end at
    settled marks. -/
theorem passed_settled (hM : ∀ i j, M i j → i < j) : ∀ (f m : ℕ) (k : ℕ → Prop) (b : Prop), n ≤ m + f → SettledTo init M k (min m n) →
    (¬ b → SettledTo init M k n) → SettledTo init M (passed n init M f k b) n := by
  intro f
  induction f with
  | zero => intro m k b hf h hb; exact settled_mono h (by omega)
  | succ f ih =>
    intro m k b hf h hb
    unfold passed
    by_cases hb' : b
    · rw [if_pos hb']
      refine ih (m + 1) _ _ (by omega) ?_ ?_
      · rcases Nat.lt_or_ge m n with hm | hm
        · exact settled_mono (pass_settled hM (m := m) hm (settled_mono h (by omega))) (by omega)
        · rcases Nat.eq_zero_or_pos n with h0 | h0
          · intro j hj; omega
          · exact settled_mono (pass_settled hM (m := n - 1) (by omega) (settled_mono h (by omega))) (by omega)
      · intro hs
        have hs' : ∀ j < n, pass n init M k j ↔ k j := fun j hj => by_contra fun hc => hs ⟨j, hj, hc⟩
        have hk := settled_of_same hM hs'
        intro j hj
        rw [hs' j hj, hk j hj]
        exact and_congr_right fun _ => forall₂_congr fun i hi => by rw [hs' i (by omega)]
    · rw [if_neg hb']; exact hb hb'

/-! ## Block by block -/

variable {S : ℕ → ℕ → Prop} {R : ℕ → Prop}

/-- What the marks and the count are after `b` blocks of `B` positions, of `N` in all: some number `e` of blocks is
    settled and counted, and while fewer than `L` are counted every block so far is, and the later ones have lost exactly
    what the settled ones suppress. -/
def After (B N L : ℕ) (init : ℕ → Prop) (S : ℕ → ℕ → Prop) (R : ℕ → Prop) (b : ℕ) (K : ℕ → Prop) (c : ℕ) : Prop :=
  ∃ e ≤ b, (∀ j < B * e, K j ↔ R j) ∧ c = cnt R (B * e)
    ∧ (c < L → e = b ∧ ∀ j < N, B * b ≤ j → (K j ↔ init j ∧ ∀ i < B * b, R i → ¬ S i j))

variable {B N L : ℕ}

/-- Before the first block: the eligible positions, and none counted. -/
theorem after_zero : After B N L init S R 0 init 0 :=
  ⟨0, le_rfl, fun j hj => by omega, by simp [cnt], fun _ => ⟨rfl, fun j _ _ => ⟨fun h => ⟨h, fun i hi => by omega⟩, fun h => h.1⟩⟩⟩

/-- A block after enough are counted changes nothing. -/
theorem after_closed {b c : ℕ} {K : ℕ → Prop} (h : After B N L init S R b K c) (hc : ¬ c < L) : After B N L init S R (b + 1) K c := by
  obtain ⟨e, he, hK, hn, _⟩ := h
  exact ⟨e, by omega, hK, hn, fun h => absurd h hc⟩

/-- A block that settles: its own marks become settled and counted, and if still fewer than `L` are counted the later
    ones lose what it suppresses. -/
theorem after_open (hR : Greedy init S R) {b c : ℕ} {K K' KF : ℕ → Prop} (h : After B N L init S R b K c) (hc : c < L)
    (hBN : B * (b + 1) ≤ N)
    (hF : SettledTo (fun j => K (B * b + j)) (fun i j => S (B * b + i) (B * b + j)) KF B)
    (hlo : ∀ j < B * b, K' j ↔ K j) (hmid : ∀ j < B, K' (B * b + j) ↔ KF j)
    (hhi : c + cnt KF B < L → ∀ j < N, B * (b + 1) ≤ j → (K' j ↔ K j ∧ ¬ ∃ i < B, KF i ∧ S (B * b + i) j)) :
    After B N L init S R (b + 1) K' (c + cnt KF B) := by
  obtain ⟨e, he, hK, hn, hopen⟩ := h
  obtain ⟨rfl, hrest⟩ := hopen hc
  have hmul : B * (e + 1) = B * e + B := by ring
  have hFR : ∀ j < B, KF j ↔ R (B * e + j) := by
    intro j
    induction j using Nat.strong_induction_on with
    | _ j ih =>
      intro hj
      rw [hF j hj, hR (B * e + j)]
      show (K (B * e + j) ∧ ∀ i < j, KF i → ¬ S (B * e + i) (B * e + j)) ↔ _
      rw [hrest (B * e + j) (by omega) (by omega)]
      constructor
      · rintro ⟨⟨hi, h1⟩, h2⟩
        refine ⟨hi, fun i hi' hRi hs => ?_⟩
        rcases Nat.lt_or_ge i (B * e) with h | h
        · exact h1 i h hRi hs
        · obtain ⟨i', rfl⟩ := Nat.exists_eq_add_of_le h
          exact h2 i' (by omega) ((ih i' (by omega) (by omega)).mpr hRi) hs
      · rintro ⟨hi, h1⟩
        exact ⟨⟨hi, fun i hi' hRi => h1 i (by omega) hRi⟩, fun i hi' hk => h1 _ (by omega) ((ih i hi' (by omega)).mp hk)⟩
  have hcnt : c + cnt KF B = cnt R (B * (e + 1)) := by rw [hmul, cnt_add, hn, cnt_congr hFR]
  refine ⟨e + 1, le_rfl, fun j hj => ?_, hcnt, fun hl => ⟨rfl, fun j hj hj' => ?_⟩⟩
  · rcases Nat.lt_or_ge j (B * e) with h | h
    · rw [hlo j h, hK j h]
    · obtain ⟨i', rfl⟩ := Nat.exists_eq_add_of_le h
      rw [hmid i' (by omega), hFR i' (by omega)]
  · rw [hhi hl j hj hj', hrest j hj (by omega)]
    constructor
    · rintro ⟨⟨hi, h1⟩, h2⟩
      refine ⟨hi, fun i hi' hRi hs => ?_⟩
      rcases Nat.lt_or_ge i (B * e) with h | h
      · exact h1 i h hRi hs
      · obtain ⟨i', rfl⟩ := Nat.exists_eq_add_of_le h
        exact h2 ⟨i', by omega, (hFR i' (by omega)).mpr hRi, hs⟩
    · rintro ⟨hi, h1⟩
      exact ⟨⟨hi, fun i hi' => h1 i (by omega)⟩, fun ⟨i, hi', hk, hs⟩ => h1 _ (by omega) ((hFR i hi').mp hk) hs⟩

/-! ## The places the marks give -/

/-- The place of a position among `N`: the kept ones first, in order, then the others, in order. -/
def place (K : ℕ → Prop) (N c : ℕ) : ℕ := if K c then cnt K c else cnt K N + cnt (fun j => ¬ K j) c

/-- Two positions with one place are one. -/
theorem place_inj {K : ℕ → Prop} {a b : ℕ} (ha : a < N) (hb : b < N) (h : place K N a = place K N b) : a = b := by
  unfold place at h
  have h1 := fun (hk : K a) => cnt_lt_of K ha hk
  have h2 := fun (hk : K b) => cnt_lt_of K hb hk
  by_contra hne
  rcases Nat.lt_or_gt_of_ne hne with hlt | hlt
  · have h3 := fun hk => cnt_lt_of K hlt hk
    have h4 := fun hk => cnt_lt_of (fun j => ¬ K j) hlt hk
    by_cases hka : K a <;> by_cases hkb : K b <;> simp only [hka, hkb, if_true, if_false] at h h1 h2 h3 h4 <;>
      simp only [forall_const, not_false_eq_true, true_implies] at h1 h2 h3 h4 <;> omega
  · have h3 := fun hk => cnt_lt_of K hlt hk
    have h4 := fun hk => cnt_lt_of (fun j => ¬ K j) hlt hk
    by_cases hka : K a <;> by_cases hkb : K b <;> simp only [hka, hkb, if_true, if_false] at h h1 h2 h3 h4 <;>
      simp only [forall_const, not_false_eq_true, true_implies] at h1 h2 h3 h4 <;> omega

/-- THE EARLY STOP IS HARMLESS: after all the blocks, a position whose place in the full selection is among the first `L`
    is marked as there and has the same place by the marks. -/
theorem place_after {b c : ℕ} {K : ℕ → Prop} (h : After B (B * b) L init S R b K c) {p r : ℕ} (hp : p < B * b)
    (hr : place R (B * b) p = r) (hrL : r < L) : (K p ↔ R p) ∧ place K (B * b) p = r := by
  obtain ⟨e, he, hK, hn, hopen⟩ := h
  rcases Nat.lt_or_ge c L with hc | hc
  · obtain ⟨rfl, _⟩ := hopen hc
    refine ⟨hK p hp, ?_⟩
    rw [← hr]; unfold place
    simp only [hK p hp, cnt_congr hK, cnt_congr (n := p) (K := K) (K' := R) fun j hj => hK j (by omega),
      cnt_congr (n := p) (K := fun j => ¬ K j) (K' := fun j => ¬ R j) fun j hj => not_congr (hK j (by omega))]
  · have hle : B * e ≤ B * b := Nat.mul_le_mul_left _ he
    have hm := cnt_mono R hle
    unfold place at hr
    by_cases hRp : R p
    · rw [if_pos hRp] at hr
      have hpe : p < B * e := by
        by_contra hpe
        have := cnt_mono R (Nat.le_of_not_lt hpe)
        omega
      refine ⟨hK p hpe, ?_⟩
      unfold place
      rw [if_pos ((hK p hpe).mpr hRp), cnt_congr (n := p) (K := K) (K' := R) fun j hj => hK j (by omega), hr]
    · rw [if_neg hRp] at hr; omega

end Cert.Nms

end
-- ==== Proof.Maths.Stable.lean ====
/-
  The stable order of scores, descending, of which the kept ones are descending and above every other: the position at
  rank `r` is the one whose place by the marks is `r`.
-/
module

public import Idealize.ShloMosaic.Lib.SortPrefix
public import proofs.«01_k».proof.Proof.Maths.Greedy

@[expose] public section

noncomputable section

namespace Cert.Nms

open Idealize.ShloMosaic
open scoped Classical

/-- An insertion only compares earlier list members with later ones: two relations that agree there sort alike. -/
theorem stableSort_congr_of_pairwise {ι : Type} (A A' : ι → ι → Bool) (l : List ι) (h : l.Pairwise fun a b => A b a = A' b a) :
    stableSort A l = stableSort A' l := by
  induction l with
  | nil => rfl
  | cons a l ih =>
    rw [List.pairwise_cons] at h
    unfold stableSort
    rw [ih h.2]
    exact insertBefore_congr A A' a _ fun b hb => h.1 b ((perm_stableSort A' l).mem_iff.mp hb)

/-- Keys compared and then positions. -/
def keyThenPos {n : ℕ} {κ : Type} [LinearOrder κ] (key : Fin n → κ) (k k' : Fin n) : Bool :=
  decide (key k' < key k) || (decide (key k = key k') && decide (k < k'))

theorem keyThenPos_iff {n : ℕ} {κ : Type} [LinearOrder κ] (key : Fin n → κ) (k k' : Fin n) :
    keyThenPos key k k' = true ↔ key k' < key k ∨ (key k = key k' ∧ k < k') := by
  simp [keyThenPos]

/-- The stable sort by descending keys, ties in position order. -/
theorem sortedFrom_desc {n : ℕ} {κ : Type} [LinearOrder κ] (key : Fin n → κ) (A : Fin n → Fin n → Bool)
    (hA : ∀ k k', A k k' = decide (key k' < key k)) : sortedFrom A = sortedFrom (keyThenPos key) := by
  have h : sortPositions n A = sortPositions n (keyThenPos key) :=
    stableSort_congr_of_pairwise _ _ _ ((List.pairwise_lt_finRange n).imp fun {a b} hab => by
      rw [hA]; simp [keyThenPos, not_lt_of_gt hab])
  funext k
  unfold sortedFrom
  rw [List.get_of_eq h]
  rfl

/-- The order is strict and total. -/
theorem keyThenPos_strict {n : ℕ} {κ : Type} [LinearOrder κ] (key : Fin n → κ) : StrictTotalBefore (keyThenPos key) := by
  refine (StrictTotalBefore.of_key_then_position (fun a b => decide (b < a)) key ?_ ?_ ?_ :)
  · intro a; simp
  · intro a b c h h'; simp only [decide_eq_true_eq] at *; exact h'.trans h
  · intro a b; simp only [decide_eq_true_eq]
    rcases lt_trichotomy a b with h | h | h
    · exact Or.inr (Or.inr h)
    · exact Or.inr (Or.inl h)
    · exact Or.inl h

/-- In the sorted order an earlier rank is before a later one. -/
theorem sortedFrom_before {n : ℕ} {κ : Type} [LinearOrder κ] (key : Fin n → κ) {i j : Fin n} (h : i < j) :
    keyThenPos key (sortedFrom (keyThenPos key) i) (sortedFrom (keyThenPos key) j) = true := by
  have hs := keyThenPos_strict key
  have h1 := sortedFrom_noInversion (keyThenPos key) (keyThenPos key) (fun a b h => hs.asymm a b h) (fun _ _ h => h) hs.negTrans i j h
  rcases hs.total _ _ (fun e => absurd (sortedFrom_injective _ e) (ne_of_lt h)) with h2 | h2
  · exact h2
  · rw [h1] at h2; exact absurd h2 (by decide)

/-- The keys come out in order. -/
theorem sortedFrom_keys {n : ℕ} {κ : Type} [LinearOrder κ] (key : Fin n → κ) {i j : Fin n} (h : i ≤ j) :
    key (sortedFrom (keyThenPos key) j) ≤ key (sortedFrom (keyThenPos key) i) := by
  rcases eq_or_lt_of_le h with rfl | h
  · exact le_rfl
  · rcases (keyThenPos_iff _ _ _).mp (sortedFrom_before key h) with h | h
    · exact h.le
    · exact h.1.ge

theorem place_lt {K : ℕ → Prop} {n c : ℕ} (hc : c < n) : place K n c < n := by
  unfold place
  by_cases h : K c
  · rw [if_pos h]; exact lt_of_lt_of_le (cnt_lt_of K hc h) (cnt_le K n)
  · rw [if_neg h]
    have := cnt_lt_of (fun j => ¬ K j) hc h
    have := cnt_not K n
    omega

/-- THE RANK IS THE PLACE: where the kept keys descend and exceed the one key of all others, the position the stable
    descending sort puts at rank `r` has place `r`. -/
theorem place_sortedFrom {n : ℕ} {κ : Type} [LinearOrder κ] (R : ℕ → Prop) (key : Fin n → κ) (s : Fin n → κ) (low : κ)
    (hs : ∀ i j : Fin n, i ≤ j → s j ≤ s i) (hk : ∀ i : Fin n, R i → key i = s i ∧ low < s i) (hl : ∀ i : Fin n, ¬ R i → key i = low)
    (r : Fin n) : place R n (sortedFrom (keyThenPos key) r) = r := by
  have mono : ∀ a b : Fin n, keyThenPos key a b = true → place R n a < place R n b := by
    intro a b h
    rw [keyThenPos_iff] at h
    unfold place
    by_cases ha : R a <;> by_cases hb : R b
    · rw [if_pos ha, if_pos hb]
      refine cnt_lt_of R (?_ : a < b) ha
      by_contra hab
      rcases h with h | h
      · rw [(hk a ha).1, (hk b hb).1] at h
        exact absurd h (not_lt_of_ge (hs b a (le_of_not_gt hab)))
      · exact hab h.2
    · rw [if_pos ha, if_neg hb]
      exact Nat.lt_add_right _ (cnt_lt_of R a.isLt ha)
    · exfalso
      rw [hl a ha, (hk b hb).1] at h
      rcases h with h | h
      · exact absurd h (not_lt_of_gt (hk b hb).2)
      · exact absurd h.1 (ne_of_lt (hk b hb).2)
    · rw [if_neg ha, if_neg hb]
      rw [hl a ha, hl b hb] at h
      have hab : (a : ℕ) < b := (h.resolve_left (lt_irrefl _)).2
      exact Nat.add_lt_add_left (cnt_lt_of _ hab ha) _
  let f : Fin n → Fin n := fun r => ⟨place R n (sortedFrom (keyThenPos key) r), place_lt (Fin.isLt _)⟩
  have hf : StrictMono f := fun i j h => mono _ _ (sortedFrom_before key h)
  have h1 : ∀ m : ℕ, ∀ i : Fin n, (i : ℕ) = m → (i : ℕ) ≤ f i := by
    intro m
    induction m with
    | zero => intro i hi; omega
    | succ m ih =>
      intro i hi
      have h := ih ⟨m, by omega⟩ rfl
      have h2 : f ⟨m, by omega⟩ < f i := hf (Fin.lt_def.mpr (by show m < (i : ℕ); omega))
      have h3 : ((f ⟨m, by omega⟩ : Fin n) : ℕ) < f i := h2
      have h4 : m ≤ (f ⟨m, by omega⟩ : Fin n) := h
      omega
  have h2 : ∀ m : ℕ, ∀ i : Fin n, (i : ℕ) + m + 1 = n → (f i : ℕ) ≤ i := by
    intro m
    induction m with
    | zero => intro i hi; have := (f i).isLt; omega
    | succ m ih =>
      intro i hi
      have h := ih ⟨i + 1, by omega⟩ (by show (i : ℕ) + 1 + m + 1 = n; omega)
      have h2 : f i < f ⟨i + 1, by omega⟩ := hf (Fin.lt_def.mpr (by show (i : ℕ) < i + 1; omega))
      have h3 : (f i : ℕ) < (f ⟨i + 1, by omega⟩ : Fin n) := h2
      have h4 : ((f ⟨i + 1, by omega⟩ : Fin n) : ℕ) ≤ i + 1 := h
      omega
  exact le_antisymm (h2 (n - 1 - r) r (by have := r.isLt; omega)) (h1 r r rfl)

end Cert.Nms

end
-- ==== Proof.Maths.Marks.lean ====
/-
  Marks as extended reals: a property of a position is stored as one or zero, and sums of such marks are counts.
-/
module

public import proofs.«01_k».proof.Proof.Maths.Greedy
public import Idealize.ShloMosaic.Lib.Pointwise
public import Idealize.ShloMosaic.Lib.IdealHost

@[expose] public section

noncomputable section

namespace Cert.Nms

open Idealize.ShloMosaic
open scoped Classical

/-- One where the property holds and zero where it does not. -/
def ind (p : Prop) : EReal := if p then 1 else 0

theorem ind_true {p : Prop} (h : p) : ind p = 1 := if_pos h

theorem ind_false {p : Prop} (h : ¬ p) : ind p = 0 := if_neg h

theorem ind_congr {p q : Prop} (h : p ↔ q) : ind p = ind q := congrArg ind (propext h)

/-- The mark of a property as a real number. -/
theorem ind_real (p : Prop) : ind p = (((if p then 1 else 0 : ℕ) : ℝ) : EReal) := by
  by_cases h : p <;> simp [ind, h]

theorem ind_mul (p q : Prop) : ind p * ind q = ind (p ∧ q) := by
  by_cases h : p <;> by_cases h' : q <;> simp [ind, h, h']

theorem ind_ite (p q : Prop) [Decidable p] : (if p then (0 : EReal) else ind q) = ind (q ∧ ¬ p) := by
  by_cases h : p <;> by_cases h' : q <;> simp [ind, h, h']

theorem ind_inj {p q : Prop} : ind p = ind q ↔ (p ↔ q) := by
  by_cases h : p <;> by_cases h' : q <;> simp [ind, h, h']

/-- A natural number as an extended real. -/
abbrev num (n : ℕ) : EReal := ((n : ℝ) : EReal)

theorem num_add (a b : ℕ) : num a + num b = num (a + b) := by
  rw [num, num, num, ← EReal.coe_add, Nat.cast_add]

theorem num_sub {a b : ℕ} (h : b ≤ a) : num a - num b = num (a - b) := by
  rw [num, num, num, ← EReal.coe_sub, Nat.cast_sub h]

theorem num_lt {a b : ℕ} : num a < num b ↔ a < b := by
  rw [num, num, EReal.coe_lt_coe_iff, Nat.cast_lt]

theorem num_inj {a b : ℕ} : num a = num b ↔ a = b := by
  rw [num, num, EReal.coe_eq_coe_iff, Nat.cast_inj]

theorem num_zero : num 0 = 0 := by simp [num]

theorem num_one : num 1 = 1 := by simp [num]

/-- The sum of the first `n` marks is how many there are. -/
theorem sum_ind (K : ℕ → Prop) : ∀ n : ℕ, ∑ x : Fin n, ind (K x) = num (cnt K n)
  | 0 => by simp [cnt]
  | n + 1 => by
    rw [Fin.sum_univ_castSucc]
    have := sum_ind K n
    simp only [Fin.val_castSucc, Fin.val_last] at this ⊢
    rw [this, ind_real, num_add, cnt_succ]

/-- The word of one half. -/
theorem half_real : Ideal.ofBits FTy.f32 1056964608#32 = ((1 / 2 : ℝ) : EReal) := by
  simp [Ideal.ofBits, Ideal.ieee]
  rw [← EReal.coe_mul]
  norm_num

theorem half_lt_num (n : ℕ) : Ideal.ofBits FTy.f32 1056964608#32 < num n ↔ 0 < n := by
  rw [half_real, num, EReal.coe_lt_coe_iff]
  constructor
  · intro h
    rcases Nat.eq_zero_or_pos n with rfl | h'
    · norm_num at h
    · exact h'
  · intro h
    have : (1 : ℝ) ≤ n := by exact_mod_cast h
    linarith

theorem half_lt_ind (p : Prop) : Ideal.ofBits FTy.f32 1056964608#32 < ind p ↔ p := by
  rw [ind_real]
  by_cases h : p <;> simp only [h, if_true, if_false, half_lt_num] <;> simp

/-- Some property among the first `n` holds when the count is not zero. -/
theorem cnt_pos (K : ℕ → Prop) (n : ℕ) : 0 < cnt K n ↔ ∃ i < n, K i := by
  constructor
  · intro h
    by_contra hn
    push Not at hn
    have : cnt K n = cnt (fun _ => False) n := cnt_congr fun j hj => ⟨fun h => hn j hj h, False.elim⟩
    have none : ∀ m, cnt (fun _ => False) m = 0 := fun m => by
      induction m with
      | zero => simp [cnt]
      | succ m ih => rw [cnt_succ, ih]; simp
    rw [this, none] at h
    exact absurd h (lt_irrefl _)
  · rintro ⟨i, hi, h⟩
    exact lt_of_le_of_lt (Nat.zero_le _) (cnt_lt_of K hi h)

/-- A sum of marks is above one half when one of them is set. -/
theorem half_lt_sum (K : ℕ → Prop) (n : ℕ) : Ideal.ofBits FTy.f32 1056964608#32 < ∑ x : Fin n, ind (K x) ↔ ∃ i < n, K i := by
  rw [sum_ind, half_lt_num, cnt_pos]

/-- A mark that is put out when a sum of marks is above one half. -/
theorem ite_half {n : ℕ} {f : Fin n → EReal} {K : ℕ → Prop} {q : Prop} {y : EReal} [Decidable (Ideal.ofBits FTy.f32 1056964608#32 < ∑ x, f x)]
    (h : ∀ x, f x = ind (K x)) (hy : y = ind q) :
    (if Ideal.ofBits FTy.f32 1056964608#32 < ∑ x, f x then 0 else y) = ind (q ∧ ¬ ∃ i < n, K i) := by
  have e : (∑ x, f x) = ∑ x : Fin n, ind (K x) := Finset.sum_congr rfl fun x _ => h x
  have e' : Ideal.ofBits FTy.f32 1056964608#32 < ∑ x, f x ↔ ∃ i < n, K i := by rw [e]; exact half_lt_sum K n
  rw [hy, ind_ite]
  exact ind_congr (and_congr_right fun _ => not_congr e')

theorem ite_ind (p : Prop) [Decidable p] : (if p then (1 : EReal) else 0) = ind p := by
  by_cases h : p <;> simp [ind, h]

/-- "Greater" as a bit. -/
theorem ogt_bit (a b : EReal) : Ideal.cmp .ogt a b = 1#1 ↔ b < a := by
  by_cases h : b < a <;> simp [Ideal.cmp, h]

/-- "Less" as a bit. -/
theorem olt_bit (a b : EReal) : Ideal.cmp .olt a b = 1#1 ↔ a < b := by
  by_cases h : a < b <;> simp [Ideal.cmp, h]

/-- A comparison's bit, widened and made a number, is the mark of the comparison. -/
theorem bit_ind (p : Prop) [Decidable p] : (FloatOps.sitofp FTy.f32 (BitVec.setWidth 32 (BitVec.ofBool (decide p))) : Ideal .f32) = ind p := by
  by_cases h : p <;> simp [ind, h, FloatOps.sitofp]

/-- A small number's word read as a signed number. -/
theorem word_int {n : ℕ} (h : n < 2 ^ 31) : (BitVec.ofNat 32 n).toInt = n := by
  rw [BitVec.toInt_eq_toNat_of_lt] <;> rw [BitVec.toNat_ofNat, Nat.mod_eq_of_lt (by omega)]
  omega

/-- A small number's word, made a number. -/
theorem word_num {n : ℕ} (h : n < 2 ^ 31) : (FloatOps.sitofp FTy.f32 (BitVec.ofNat 32 n) : Ideal .f32) = num n := by
  have := word_int h
  show (((BitVec.ofNat 32 n).toInt : ℝ) : EReal) = _
  rw [this]; simp [num]

theorem word_sgt {a b : ℕ} (ha : a < 2 ^ 31) (hb : b < 2 ^ 31) :
    IntOp.cmpi .sgt (BitVec.ofNat 32 a) (BitVec.ofNat 32 b) = BitVec.ofBool (decide (b < a)) := by
  simp [IntOp.cmpi, BitVec.slt, word_int ha, word_int hb]

theorem word_slt {a b : ℕ} (ha : a < 2 ^ 31) (hb : b < 2 ^ 31) :
    IntOp.cmpi .slt (BitVec.ofNat 32 a) (BitVec.ofNat 32 b) = BitVec.ofBool (decide (a < b)) := by
  simp [IntOp.cmpi, BitVec.slt, word_int ha, word_int hb]

theorem word_sle {a b : ℕ} (ha : a < 2 ^ 31) (hb : b < 2 ^ 31) :
    IntOp.cmpi .sle (BitVec.ofNat 32 a) (BitVec.ofNat 32 b) = BitVec.ofBool (decide (a ≤ b)) := by
  simp [IntOp.cmpi, BitVec.sle, word_int ha, word_int hb]

theorem word_eq {a b : ℕ} (ha : a < 2 ^ 31) (hb : b < 2 ^ 31) :
    IntOp.cmpi .eq (BitVec.ofNat 32 a) (BitVec.ofNat 32 b) = BitVec.ofBool (decide (a = b)) := by
  have : BitVec.ofNat 32 a = BitVec.ofNat 32 b ↔ a = b :=
    ⟨fun h => by
      have := congrArg BitVec.toInt h
      rw [word_int ha, word_int hb] at this
      exact_mod_cast this, fun h => by rw [h]⟩
  simp only [IntOp.cmpi, beq_eq_decide, this]

theorem andi_bits (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

/-! ## How much two boxes overlap -/

/-- The overlap of two boxes given by their corners: the shared area over the joint area. -/
def iou (a b : Fin 4 → EReal) : EReal :=
  Ideal.div (max (min (a 2) (b 2) - max (a 0) (b 0)) 0 * max (min (a 3) (b 3) - max (a 1) (b 1)) 0)
    (max ((a 2 - a 0) * (a 3 - a 1) + (b 2 - b 0) * (b 3 - b 1) - max (min (a 2) (b 2) - max (a 0) (b 0)) 0 * max (min (a 3) (b 3) - max (a 1) (b 1)) 0)
      (Ideal.ofBits FTy.f32 814313567#32))

/-- Box `i` overlaps box `j` by more than one half. -/
def Over (box : ℕ → Fin 4 → EReal) (i j : ℕ) : Prop := Ideal.ofBits FTy.f32 1056964608#32 < iou (box i) (box j)

end Cert.Nms

end
-- ==== Proof.Maths.Sorted.lean ====
/-
  The boxes in the order of their scores: the scores below the threshold put to minus one, the descending order of what
  is left, ties in position order, and the ordered boxes and scores followed by filler.
-/
module

public import proofs.«01_k».proof.Proof.Maths.Stable
public import proofs.«01_k».proof.Proof.Maths.Marks

@[expose] public section

noncomputable section

namespace Cert.Nms

open Idealize.ShloMosaic
open scoped Classical

/-- A score, or minus one where it is not above the threshold. -/
def thr (s : Fin 5000 → EReal) (k : Fin 5000) : EReal :=
  if Ideal.ofBits FTy.f32 1028443341#32 < s k then s k else Ideal.ofBits FTy.f32 3212836864#32

/-- The position that comes at each rank of the descending order. -/
def perm (s : Fin 5000 → EReal) : Fin 5000 → Fin 5000 := sortedFrom (keyThenPos (thr s))

/-- The ordered scores, and minus one past them. -/
def score (s : Fin 5000 → EReal) (j : ℕ) : EReal := if h : j < 5000 then thr s (perm s ⟨j, h⟩) else Ideal.ofBits FTy.f32 3212836864#32

/-- The ordered boxes, and zero past them. -/
def box (b : Fin 5000 → Fin 4 → EReal) (s : Fin 5000 → EReal) (j : ℕ) (d : Fin 4) : EReal := if h : j < 5000 then b (perm s ⟨j, h⟩) d else 0

/-- A position is eligible when its ordered score is above the threshold. -/
def Eligible (s : Fin 5000 → EReal) (j : ℕ) : Prop := Ideal.ofBits FTy.f32 1028443341#32 < score s j

theorem neg_one_real : Ideal.ofBits FTy.f32 3212836864#32 = ((-1 : ℝ) : EReal) := by
  simp [Ideal.ofBits, Ideal.ieee]
  try rw [← EReal.coe_mul]
  try norm_num

theorem low_real : ∃ x : ℝ, 0 < x ∧ Ideal.ofBits FTy.f32 1028443341#32 = (x : EReal) := by
  refine ⟨13421773 * (1 / 268435456), by norm_num, ?_⟩
  simp [Ideal.ofBits, Ideal.ieee]
  norm_num

/-- The threshold is above minus one. -/
theorem neg_one_lt_low : Ideal.ofBits FTy.f32 3212836864#32 < Ideal.ofBits FTy.f32 1028443341#32 := by
  obtain ⟨x, hx, e⟩ := low_real
  rw [neg_one_real, e, EReal.coe_lt_coe_iff]
  linarith

/-- Filler is never eligible. -/
theorem not_eligible {s : Fin 5000 → EReal} {j : ℕ} (h : 5000 ≤ j) : ¬ Eligible s j := by
  unfold Eligible score
  rw [dif_neg (by omega)]
  exact not_lt_of_gt neg_one_lt_low

theorem score_at (s : Fin 5000 → EReal) (j : Fin 5000) : score s j = thr s (perm s j) := dif_pos j.2

theorem box_at (b : Fin 5000 → Fin 4 → EReal) (s : Fin 5000 → EReal) (j : Fin 5000) (d : Fin 4) : box b s j d = b (perm s j) d := dif_pos j.2

/-- The ordered scores descend. -/
theorem score_anti (s : Fin 5000 → EReal) {i j : Fin 5000} (h : i ≤ j) : score s j ≤ score s i := by
  rw [score_at, score_at]
  exact sortedFrom_keys (thr s) h

/-- "Before", by negated keys compared the way the sorts compare them, is "after" by the keys. -/
theorem before_bit (a b : EReal) :
    (FloatOps.cmpfTotal (F := Ideal) (φ := .f32) .lt
        (Scalar.select (FloatOps.cmpf (F := Ideal) (φ := .f32) .une a a) (FloatOps.ofBits (F := Ideal) .f32 0x7FC00000#32)
          (Scalar.select (FloatOps.cmpf (F := Ideal) (φ := .f32) .oeq a (FloatOps.ofBits (F := Ideal) .f32 0x00000000#32)) (FloatOps.ofBits (F := Ideal) .f32 0x00000000#32) a))
        (Scalar.select (FloatOps.cmpf (F := Ideal) (φ := .f32) .une b b) (FloatOps.ofBits (F := Ideal) .f32 0x7FC00000#32)
          (Scalar.select (FloatOps.cmpf (F := Ideal) (φ := .f32) .oeq b (FloatOps.ofBits (F := Ideal) .f32 0x00000000#32)) (FloatOps.ofBits (F := Ideal) .f32 0x00000000#32) b)) : BitVec 1)
      = BitVec.ofBool (decide (a < b)) := by
  have h : ∀ a : EReal, (Scalar.select (FloatOps.cmpf (F := Ideal) (φ := .f32) .une a a) (FloatOps.ofBits (F := Ideal) .f32 0x7FC00000#32)
          (Scalar.select (FloatOps.cmpf (F := Ideal) (φ := .f32) .oeq a (FloatOps.ofBits (F := Ideal) .f32 0x00000000#32)) (FloatOps.ofBits (F := Ideal) .f32 0x00000000#32) a) : EReal) = a := by
    intro a
    have h1 : FloatOps.cmpf (F := Ideal) (φ := .f32) .une a a = 0#1 := by
      show Ideal.cmp .une a a = _
      simp [Ideal.cmp]
    rw [h1]
    show (Scalar.select (FloatOps.cmpf (F := Ideal) (φ := .f32) .oeq a (FloatOps.ofBits (F := Ideal) .f32 0x00000000#32)) (FloatOps.ofBits (F := Ideal) .f32 0x00000000#32) a : EReal) = a
    by_cases h0 : a = FloatOps.ofBits (F := Ideal) .f32 0x00000000#32
    · rw [← h0]
      unfold Scalar.select
      exact ite_self _
    · have : FloatOps.cmpf (F := Ideal) (φ := .f32) .oeq a (FloatOps.ofBits (F := Ideal) .f32 0x00000000#32) = 0#1 := by
        show Ideal.cmp .oeq a _ = _
        simp only [Ideal.cmp, h0, decide_false]; rfl
      rw [this]
      rfl
  rw [h a, h b]
  rfl

/-- A place of a row of 5000, moved along the row. -/
theorem along_row {n : ℕ} (i k : Fin n) : (ix1 i : (⟨1, ![n]⟩ : Shape).Idx).along 0 k = ix1 k := by
  funext a
  match a with
  | ⟨0, _⟩ => exact Function.update_self ..

/-- A sort whose comparison says "the first row's score is the greater" reads its operand in the descending order. -/
theorem sortBy_at {ι α : Type} (key : Fin 5000 → EReal) (cmp : ι → ι → BitVec 1) (rows : (⟨1, ![5000]⟩ : Shape).Idx → ι)
    (h : ∀ k k', cmp (rows (ix1 k)) (rows (ix1 k')) = BitVec.ofBool (decide (key k' < key k))) (x : (⟨1, ![5000]⟩ : Shape).Idx → α) (i : Fin 5000) :
    Host.sortBy ⟨1, ![5000]⟩ 0 cmp rows x (ix1 i) = x (ix1 (sortedFrom (keyThenPos key) i)) := by
  have e : sortedFrom (fun k k' : Fin 5000 => cmp (rows (ix1 k)) (rows (ix1 k')) == 1#1) = sortedFrom (keyThenPos key) :=
    sortedFrom_desc key _ fun k k' => by
      rw [h]
      by_cases h' : key k' < key k <;> simp [h']
  rw [← e]
  show x ((ix1 i).along 0 (sortedFrom (fun k k' => cmp (rows ((ix1 i).along 0 k)) (rows ((ix1 i).along 0 k')) == 1#1) i)) = _
  have e2 : (fun k k' : Fin 5000 => cmp (rows ((ix1 i : (⟨1, ![5000]⟩ : Shape).Idx).along 0 k)) (rows ((ix1 i : (⟨1, ![5000]⟩ : Shape).Idx).along 0 k')) == 1#1)
      = fun k k' => cmp (rows (ix1 k)) (rows (ix1 k')) == 1#1 :=
    funext fun k => funext fun k' => congrArg₂ (fun p q => cmp (rows p) (rows q) == 1#1) (along_row i k) (along_row i k')
  exact (congrArg x (along_row i _)).trans (congrArg (fun f : Fin 5000 → Fin 5000 → Bool => x (ix1 (sortedFrom f i))) e2)

/-- Negation turns the order round. -/
theorem neg_lt_iff (a b : EReal) : -a < -b ↔ b < a := EReal.neg_lt_neg_iff

end Cert.Nms

end
-- ==== Proof.KI.Host.lean ====
/-
  What the arrays hold when the launch starts: the boxes and the scores in descending order of score, followed by filler.
-/
module

public import proofs.«01_k».proof.Proof.KI.Setup
public import proofs.«01_k».proof.Proof.Maths.Sorted
public import Idealize.ShloMosaic.Lib.StableHlo.ReadAt

@[expose] public section

noncomputable section

namespace Cert.KernelIdeal.Nms

open Cert.KernelIdeal.Gen Cert.Nms
open Idealize.ShloMosaic Idealize.ShloMosaic.TcCoe Idealize.SL.Sem

variable (m : (ℓ : Loc nD τ sig) → Buf (Elt Ideal) ℓ) (c : Dev nD)

/-- The scores as launched. -/
def scores (k : Fin 5000) : EReal := (m (c, Proc.devRef .tc main_arg1) : S5000.Idx → EReal) (ix1 k)

/-- The boxes as launched. -/
def boxes (k : Fin 5000) (d : Fin 4) : EReal := (m (c, Proc.devRef .tc main_arg0) : S5000x4.Idx → EReal) (ix2 k d)

/-- The kernel's sort compares the first components. -/
theorem rows_before (r r' : EReal × EReal × EReal × EReal × EReal) :
    comparator_f32_f32_f32_f32_f32_d0 (F := Ideal) r r' = BitVec.ofBool (decide (r.1 < r'.1)) := before_bit _ _

/-- One sorted column of the boxes, with zeros after it. -/
theorem column_at {rows : S5000.Idx → EReal × EReal × EReal × EReal × EReal} (hr : ∀ k, (rows (ix1 k)).1 = - thr (scores m c) k)
    {x : S5000.Idx → EReal} {d : Fin 4} (hx : ∀ k, x (ix1 k) = boxes m c k d) (j : Fin 5120) :
    (if h : j.val < 5000 then Host.sortBy S5000 0 (comparator_f32_f32_f32_f32_f32_d0 (F := Ideal)) rows x (ix1 (⟨j.val, h⟩ : Fin 5000)) else 0)
      = box (boxes m c) (scores m c) j d := by
  unfold box
  by_cases h : j.val < 5000
  · rw [dif_pos h, dif_pos h]
    refine (sortBy_at (thr (scores m c)) _ rows (fun k k' => ?_) x _).trans (hx _)
    rw [rows_before, hr, hr]
    exact congrArg BitVec.ofBool (decide_eq_decide.mpr (neg_lt_iff _ _))
  · rw [dif_neg h, dif_neg h]

/-- The sorted scores, with minus one after them. -/
theorem scores_at {rows : S5000.Idx → EReal × EReal × EReal × EReal × EReal} (hr : ∀ k, (rows (ix1 k)).1 = - thr (scores m c) k)
    {x : S5000.Idx → EReal} (hx : ∀ k, x (ix1 k) = - thr (scores m c) k) (j : Fin 5120) :
    (if h : j.val < 5000 then - Host.sortBy S5000 0 (comparator_f32_f32_f32_f32_f32_d0 (F := Ideal)) rows x (ix1 (⟨j.val, h⟩ : Fin 5000))
      else Ideal.ofBits FTy.f32 3212836864#32) = score (scores m c) j := by
  unfold score
  by_cases h : j.val < 5000
  · rw [dif_pos h, dif_pos h]
    refine (congrArg (fun y : EReal => -y) ((sortBy_at (thr (scores m c)) _ rows (fun k k' => ?_) x _).trans (hx _))).trans (neg_neg _)
    rw [rows_before, hr, hr]
    exact congrArg BitVec.ofBool (decide_eq_decide.mpr (neg_lt_iff _ _))
  · rw [dif_neg h, dif_neg h]

set_option maxHeartbeats 1600000 in
theorem V_v29 (j : Fin 5120) : @Eq EReal ((V m c main_v29 : S1x5120.Idx → EReal) (ix2 0 j)) (score (scores m c) j) := by
  unfold V
  repeat after_reads_at
  exact scores_at m c (fun k => rfl) (fun k => by pointwise; rfl) j

set_option maxHeartbeats 1600000 in
theorem V_v25 (j : Fin 5120) (d : Fin 4) : @Eq EReal ((V m c main_v25 : S4x5120.Idx → EReal) (ix2 d j)) (box (boxes m c) (scores m c) j d) := by
  unfold V
  repeat after_reads_at
  obtain rfl | rfl | rfl | rfl : d = 0 ∨ d = 1 ∨ d = 2 ∨ d = 3 := by omega
  · exact column_at m c (fun k => rfl) (d := 0) (fun k => rfl) j
  · exact column_at m c (fun k => rfl) (d := 1) (fun k => rfl) j
  · exact column_at m c (fun k => rfl) (d := 2) (fun k => rfl) j
  · exact column_at m c (fun k => rfl) (d := 3) (fun k => rfl) j

set_option maxHeartbeats 1600000 in
theorem V_v26 (j : Fin 5120) (d : Fin 4) : @Eq EReal ((V m c main_v26 : S5120x4.Idx → EReal) (ix2 j d)) (box (boxes m c) (scores m c) j d) := by
  unfold V
  repeat after_reads_at
  obtain rfl | rfl | rfl | rfl : d = 0 ∨ d = 1 ∨ d = 2 ∨ d = 3 := by omega
  · exact column_at m c (fun k => rfl) (d := 0) (fun k => rfl) j
  · exact column_at m c (fun k => rfl) (d := 1) (fun k => rfl) j
  · exact column_at m c (fun k => rfl) (d := 2) (fun k => rfl) j
  · exact column_at m c (fun k => rfl) (d := 3) (fun k => rfl) j

set_option maxHeartbeats 1600000 in
theorem V_v28 (j : Fin 5120) (d : Fin 8) : @Eq EReal ((V m c main_v28 : S5120x8.Idx → EReal) (ix2 j d))
    (if h : d.val < 4 then box (boxes m c) (scores m c) j ⟨d.val, h⟩ else 0) := by
  unfold V
  repeat after_reads_at
  by_cases h : d.val < 4
  · rw [dif_pos h, dif_pos h]
    obtain rfl | rfl | rfl | rfl : d = 0 ∨ d = 1 ∨ d = 2 ∨ d = 3 := by omega
    · exact column_at m c (fun k => rfl) (d := 0) (fun k => rfl) j
    · exact column_at m c (fun k => rfl) (d := 1) (fun k => rfl) j
    · exact column_at m c (fun k => rfl) (d := 2) (fun k => rfl) j
    · exact column_at m c (fun k => rfl) (d := 3) (fun k => rfl) j
  · rw [dif_neg h, dif_neg h]

end Cert.KernelIdeal.Nms

end
-- ==== Proof.KI.Values.lean ====
/-
  What the point's vectors hold when the marks are ones and zeros: the suppression matrix, one pass, the bit that says
  whether a pass changed anything, the count, and the suppression of a later block.
-/
module

public import proofs.«01_k».proof.Proof.KI.Model
public import proofs.«01_k».proof.Proof.Maths.Marks

@[expose] public section

noncomputable section

namespace Cert.KernelIdeal.Nms

open Cert.KernelIdeal.Gen Cert.Nms
open Idealize.ShloMosaic Idealize.ShloMosaic.TcCoe
open scoped Classical

/-- A row of marks. -/
def line (n : ℕ) (K : ℕ → Prop) : (⟨2, ![1, n]⟩ : Shape).Idx → EReal := fun j => ind (K (j 1).val)

theorem line_at {n : ℕ} (K : ℕ → Prop) (j : Fin n) : line n K (ix2 0 j) = ind (K j) := rfl

/-- A row whose every entry is the mark of a property is the row of that property's marks. -/
theorem line_ext {n : ℕ} {K : ℕ → Prop} {x : (⟨2, ![1, n]⟩ : Shape).Idx → EReal} (h : ∀ j : Fin n, x (ix2 0 j) = ind (K j)) : x = line n K := by
  funext j
  have : j = ix2 0 (j 1) := by
    funext a
    match a with
    | ⟨0, _⟩ => exact Subsingleton.elim (α := Fin 1) _ _
    | ⟨1, _⟩ => rfl
  rw [this]; exact h _

theorem line_congr {n : ℕ} {K K' : ℕ → Prop} (h : ∀ j < n, K j ↔ K' j) : line n K = line n K' :=
  line_ext fun j => (line_at K j).trans (ind_congr (h j j.2))

/-- The suppression matrix of a block holds the marks of "a box overlaps a later one by more than one half". -/
theorem inner_at {x0 : Vec Ideal S1024x4 .f32} {x2 : Vec Ideal S4x1024 .f32} {box : ℕ → Fin 4 → EReal} {o : ℕ}
    (h0 : ∀ (i : Fin 1024) c, x0 (ix2 i c) = box (o + i) c) (h2 : ∀ (j : Fin 1024) c, x2 (ix2 c j) = box (o + j) c) (i j : Fin 1024) :
    inner x0 x2 (ix2 i j) = ind (Over box (o + i) (o + j) ∧ (i : ℕ) < j) := by
  pointwise [inner, k0_pay1, k0_pay31, k0_pay32, k0_pay24, k0_pay30, k0_pay20, k0_pay21, k0_pay22, k0_pay23, k0_pay26, k0_pay27, k0_pay28, k0_pay29, k0_pay19, k0_pay25]
  rw [word_sgt (by omega) (by omega), andi_bits, bit_ind]
  simp only [h0, h2]
  rfl

/-- One pass over a block's marks. -/
theorem pay8_line {M : FVec Ideal S1024x1024 .bf16} {T : ℕ → ℕ → Prop} (hM : ∀ i j : Fin 1024, M (ix2 i j) = ind (T i j)) (I K : ℕ → Prop) :
    k0_pay8 M (line 1024 I) (line 1024 K) = line 1024 (pass 1024 I T K) := by
  refine line_ext fun j => ?_
  pointwise [k0_pay8]
  exact ite_half (K := fun i => K i ∧ T i j) (fun x => by rw [line_at, hM, ind_mul]) rfl

/-- The bit after a pass says whether the pass changed a mark. -/
theorem pay9_bit {M : FVec Ideal S1024x1024 .bf16} {T : ℕ → ℕ → Prop} (hM : ∀ i j : Fin 1024, M (ix2 i j) = ind (T i j)) (I K : ℕ → Prop) :
    Scalar.cmpf .ogt (k0_pay9 M (line 1024 I) (line 1024 K)) (Scalar.ofBits .f32 0x00000000#32) = 1#1
      ↔ ∃ j < 1024, ¬ (pass 1024 I T K j ↔ K j) := by
  have e : k0_pay9 M (line 1024 I) (line 1024 K)
      = Finset.fold max (Ideal.ofBits FTy.f32 4286578688#32) (fun x : Fin 1 × Fin 1024 => ind (¬ (pass 1024 I T K x.2 ↔ K x.2))) Finset.univ := by
    pointwise [k0_pay9]
    rw [pay8_line hM]
    refine congrArg (fun f => Finset.fold max _ f _) (funext fun x => ?_)
    simp only [line_at, ne_eq, ind_inj]
    exact ite_ind _
  have hb : Ideal.ofBits FTy.f32 4286578688#32 = ⊥ := by simp [Ideal.ofBits, Ideal.ieee]
  rw [e, hb]
  refine (ogt_bit _ _).trans ?_
  rw [show (Scalar.ofBits (F := Ideal) .f32 0x00000000#32) = (0 : EReal) from Ideal.ofBits_zero_f32, Finset.lt_fold_max]
  constructor
  · rintro (h | ⟨x, _, h⟩)
    · exact absurd h not_lt_bot
    · refine ⟨x.2, x.2.2, fun hx => ?_⟩
      rw [ind_false (not_not.mpr hx)] at h
      exact lt_irrefl _ h
  · rintro ⟨j, hj, h⟩
    exact Or.inr ⟨(0, ⟨j, hj⟩), Finset.mem_univ _, by rw [ind_true h]; exact zero_lt_one⟩

/-- The passes over a block's marks are the passes over the properties. -/
theorem passes_line {M : FVec Ideal S1024x1024 .bf16} {T : ℕ → ℕ → Prop} (hM : ∀ i j : Fin 1024, M (ix2 i j) = ind (T i j)) (I : ℕ → Prop) :
    ∀ (n : ℕ) (K : ℕ → Prop) (b : BitVec 1) (p : Prop), (b = 1#1 ↔ p) →
      passes M (line 1024 I) n (line 1024 K) b = line 1024 (passed 1024 I T n K p)
  | 0, _, _, _, _ => rfl
  | n + 1, K, b, p, hb => by
    by_cases hp : p
    · rw [passes, if_pos (hb.2 hp), pay8_line hM, passes_line hM I n _ _ _ (pay9_bit hM I K), passed, if_pos hp]
    · rw [passes, if_neg (fun h => hp (hb.1 h)), passed, if_neg hp]

/-- The count after a block. -/
theorem pay3_line (K : ℕ → Prop) (c : ℕ) : k0_pay3 (F := Ideal) (line 1024 K) (num c) = num (c + cnt K 1024) := by
  pointwise [k0_pay3]
  simp only [line_at, sum_ind, Finset.univ_unique, Finset.sum_singleton, num_add]

/-- A later block's marks, of which a kept box suppresses those it overlaps by more than one half. -/
theorem sweep_line {x0 : Vec Ideal S1024x4 .f32} {x1 : Vec Ideal S4x1024 .f32} {box : ℕ → Fin 4 → EReal} {o o' : ℕ}
    (h0 : ∀ (i : Fin 1024) c, x0 (ix2 i c) = box (o + i) c) (h1 : ∀ (j : Fin 1024) c, x1 (ix2 c j) = box (o' + j) c) (KF K : ℕ → Prop) :
    k0_pay5 (k0_pay10 (F := Ideal) (line 1024 K))
        (k0_pay11 (k0_pay20 x0) (k0_pay21 x0) (k0_pay22 x0) (k0_pay23 x0) (k0_pay24 x0) (k0_pay4 (line 1024 KF)) x1)
      = line 1024 fun j => K j ∧ ¬ ∃ i < 1024, KF i ∧ Over box (o + i) (o' + j) := by
  refine line_ext fun j => ?_
  pointwise [k0_pay5, k0_pay4, k0_pay10, k0_pay11, k0_pay24, k0_pay20, k0_pay21, k0_pay22, k0_pay23, k0_pay19]
  exact ite_half (K := fun i => KF i ∧ Over box (o + i) (o' + j)) (fun x => by rw [line_at, bit_ind, ind_mul]; simp only [h0, h1]; rfl) rfl

/-- The first marks: the scores above the threshold. -/
theorem first_line {x3 : Vec Ideal S1x5120 .f32} {s : ℕ → EReal} (h3 : ∀ j : Fin 5120, x3 (ix2 0 j) = s j) :
    k0_pay18 x3 = line 5120 fun j => Ideal.ofBits FTy.f32 1028443341#32 < s j := by
  refine line_ext fun j => ?_
  pointwise [k0_pay18]
  rw [bit_ind, h3]

/-- Fewer than one hundred kept so far. -/
theorem open_num (c : ℕ) : open' (F := Ideal) (num c) = 1#1 ↔ c < 100 := by
  have e : Ideal.ofBits FTy.f32 0x42C80000#32 = num 100 := by
    simp [Ideal.ofBits, Ideal.ieee, num]
    rw [← EReal.coe_mul]
    norm_num
  refine (olt_bit _ _).trans ?_
  rw [show (Scalar.ofBits (F := Ideal) .f32 0x42C80000#32) = num 100 from e]
  exact num_lt

end Cert.KernelIdeal.Nms

end
-- ==== Proof.KI.Steps.lean ====
/-
  What one grid point makes of marks that are ones and zeros, in terms of the properties they mark.
-/
module

public import proofs.«01_k».proof.Proof.KI.Values

@[expose] public section

noncomputable section

namespace Cert.KernelIdeal.Nms

open Cert.KernelIdeal.Gen Cert.Nms
open Idealize.ShloMosaic Idealize.ShloMosaic.TcCoe
open scoped Classical

/-- A window of marks is the row of the shifted properties. -/
theorem window_line (K : ℕ → Prop) {off : Fin 2 → ℕ} {o : ℕ} (h : off = ![0, o]) (inb : ∀ a, off a + S1x1024.size a ≤ S1x5120.size a) :
    (VecWindow.window (s := S1x5120) (line 5120 K) off S1x1024.size inb : S1x1024.Idx → EReal) = line 1024 fun j => K (o + j) := by
  subst h
  funext j
  show ind (K (o + 1 * (j 1).val)) = ind (K (o + (j 1).val))
  rw [Nat.one_mul]

/-- Marks with a window replaced. -/
theorem put_line (K KF : ℕ → Prop) {off : Fin 2 → ℕ} {o : ℕ} (h : off = ![0, o]) :
    VecWindow.put (s := S1x5120) (line 5120 K) off S1x1024.size (line 1024 KF)
      = line 5120 fun j => if o ≤ j ∧ j < o + 1024 then KF (j - o) else K j := by
  subst h
  refine line_ext fun j => ?_
  unfold VecWindow.put
  by_cases hj : o ≤ (j : ℕ) ∧ (j : ℕ) < o + 1024
  · rw [dif_pos (fun a => by
      match a with
      | ⟨0, _⟩ => exact ⟨Nat.zero_le _, Nat.one_pos⟩
      | ⟨1, _⟩ => exact hj)]
    simp only [hj, and_self, if_true]
    rfl
  · rw [dif_neg (fun h => hj (h 1))]
    simp only [hj, if_false]
    rfl

/-- A window of the boxes' columns. -/
theorem window_box {x1 : Vec Ideal S4x5120 .f32} {box : ℕ → Fin 4 → EReal} (h1 : ∀ (j : Fin 5120) c, x1 (ix2 c j) = box j c)
    {off : Fin 2 → ℕ} {o : ℕ} (h : off = ![0, o]) (inb : ∀ a, off a + S4x1024.size a ≤ S4x5120.size a) (j : Fin 1024) (c : Fin 4) :
    (VecWindow.window x1 off S4x1024.size inb : S4x1024.Idx → EReal) (ix2 c j) = box (o + j) c := by
  subst h
  have hb : o + 1024 ≤ 5120 := inb 1
  have e : (Rect.unit (s := S4x5120) ![0, o] S4x1024.size inb).emb (ix2 c j) = ix2 c (⟨o + j, by omega⟩ : Fin 5120) := by
    funext a
    match a with
    | ⟨0, _⟩ => exact Fin.ext (show 0 + 1 * c.val = c.val by omega)
    | ⟨1, _⟩ => exact Fin.ext (show o + 1 * j.val = o + j.val by omega)
  show x1 _ = _
  rw [e, h1]

theorem pay2_line (K : ℕ → Prop) : k0_pay2 (F := Ideal) (line 1024 K) = line 1024 K := by
  refine line_ext fun j => ?_
  pointwise [k0_pay2]
  rfl

/-- A later block is swept at each of the points after the point's own. -/
theorem trips_eq : ∀ i : grid0.Coords, (k0_t1_loop i).trips = 4 - (i 0).val := by decide +kernel

variable {box : ℕ → Fin 4 → EReal} (i : grid0.Coords) {x0 : Vec Ideal S1024x4 .f32} {x1 : Vec Ideal S4x5120 .f32} {x2 : Vec Ideal S4x1024 .f32}

/-- The point's own block's marks after its passes. -/
def own (box : ℕ → Fin 4 → EReal) (b : ℕ) (K : ℕ → Prop) (p : Prop) : ℕ → Prop :=
  passed 1024 (fun j => K (1024 * b + j)) (fun i j => Over box (1024 * b + i) (1024 * b + j) ∧ i < j) 1026 (fun j => K (1024 * b + j)) p

theorem settled_line (h0 : ∀ (j : Fin 1024) c, x0 (ix2 j c) = box (1024 * (i 0).val + j) c)
    (h2 : ∀ (j : Fin 1024) c, x2 (ix2 c j) = box (1024 * (i 0).val + j) c) (K : ℕ → Prop) (c : ℕ) :
    settled i x0 x2 (line 5120 K) (num c) = line 1024 (own box (i 0).val K (c < 100)) := by
  unfold settled marks
  rw [window_line K (k0_off1_eq i), pay2_line]
  exact passes_line (inner_at h0 h2) _ 1026 _ _ _ (open_num c)

theorem placed_line (K KF : ℕ → Prop) :
    placed (F := Ideal) i (line 1024 KF) (line 5120 K)
      = line 5120 fun j => if 1024 * (i 0).val ≤ j ∧ j < 1024 * (i 0).val + 1024 then KF (j - 1024 * (i 0).val) else K j :=
  put_line K KF (k0_off2_eq i)

/-- The marks after the first `n` later blocks are swept. -/
theorem sweeps_line (h0 : ∀ (j : Fin 1024) c, x0 (ix2 j c) = box (1024 * (i 0).val + j) c) (h1 : ∀ (j : Fin 5120) c, x1 (ix2 c j) = box j c)
    (K KF : ℕ → Prop) : ∀ n ≤ (k0_t1_loop i).trips, sweeps i x0 x1 (line 1024 KF) (line 5120 K) n
      = line 5120 fun j => if 1024 * (i 0).val + 1024 ≤ j ∧ j < 1024 * (i 0).val + 1024 * n + 1024 then
          K j ∧ ¬ ∃ p < 1024, KF p ∧ Over box (1024 * (i 0).val + p) j else K j
  | 0, _ => line_congr fun j _ => by rw [if_neg (by omega)]
  | n + 1, hn => by
    rw [sweeps, dif_pos (by omega), sweeps_line h0 h1 K KF n (by omega)]
    unfold swept marks
    rw [window_line _ (k0_off4_eq i ⟨n, by omega⟩),
      sweep_line (box := box) h0 (window_box h1 (k0_off3_eq i ⟨n, by omega⟩) _), put_line _ _ (k0_off4_eq i ⟨n, by omega⟩)]
    refine line_congr fun j _ => ?_
    dsimp only
    by_cases ha : 1024 * (i 0).val + 1024 * n + 1024 ≤ j ∧ j < 1024 * (i 0).val + 1024 * n + 1024 + 1024
    · rw [if_pos ha, if_neg (by omega), if_pos (by omega), Nat.add_sub_cancel' ha.1]
    · rw [if_neg ha]
      by_cases hb : 1024 * (i 0).val + 1024 ≤ j ∧ j < 1024 * (i 0).val + 1024 * n + 1024
      · rw [if_pos hb, if_pos (by omega)]
      · rw [if_neg hb, if_neg (by omega)]

variable {init R : ℕ → Prop}

/-- One grid point carries the greedy selection past one more block. -/
theorem step_after (hR : Greedy init (Over box) R) (h0 : ∀ (j : Fin 1024) c, x0 (ix2 j c) = box (1024 * (i 0).val + j) c)
    (h1 : ∀ (j : Fin 5120) c, x1 (ix2 c j) = box j c) (h2 : ∀ (j : Fin 1024) c, x2 (ix2 c j) = box (1024 * (i 0).val + j) c)
    {K : ℕ → Prop} {c : ℕ} (h : After 1024 5120 100 init (Over box) R (i 0).val K c) :
    ∃ K' c', keepStep i x0 x1 x2 (line 5120 K) (num c) = line 5120 K' ∧ cntStep i x0 x2 (line 5120 K) (num c) = num c'
      ∧ After 1024 5120 100 init (Over box) R ((i 0).val + 1) K' c' := by
  have hi : (i 0).val < 5 := (i 0).2
  unfold keepStep cntStep
  rw [settled_line i h0 h2 K c, pay3_line, placed_line]
  by_cases hc : c < 100
  · rw [if_pos ((open_num c).2 hc), if_pos ((open_num c).2 hc)]
    have hF : SettledTo (fun j => K (1024 * (i 0).val + j)) (fun p j => Over box (1024 * (i 0).val + p) (1024 * (i 0).val + j)) (own box (i 0).val K (c < 100)) 1024 := by
      have := passed_settled (n := 1024) (init := fun j => K (1024 * (i 0).val + j)) (M := fun p j => Over box (1024 * (i 0).val + p) (1024 * (i 0).val + j) ∧ p < j)
        (fun _ _ h => h.2) 1026 0 (fun j => K (1024 * (i 0).val + j)) (c < 100) (by omega) (fun j hj => by omega) (fun h => absurd hc h)
      intro j hj
      refine (this j hj).trans (and_congr_right fun _ => forall₂_congr fun p hp => ?_)
      exact imp_congr_right fun _ => not_congr (and_iff_left hp)
    generalize own box (i 0).val K (c < 100) = KF at hF ⊢
    by_cases hc' : c + cnt KF 1024 < 100
    · rw [if_pos ((open_num _).2 hc'), sweeps_line i h0 h1 _ _ _ le_rfl]
      refine ⟨_, _, rfl, rfl, after_open hR h hc (by omega) hF ?_ ?_ ?_⟩
      · intro j hj
        dsimp only
        rw [if_neg (by omega), if_neg (by omega)]
      · intro j hj
        dsimp only
        rw [if_neg (by omega), if_pos (by omega), Nat.add_sub_cancel_left]
      · intro _ j hj hj'
        dsimp only
        rw [if_pos (by rw [trips_eq]; omega), if_neg (by omega)]
    · rw [if_neg (fun h => hc' ((open_num _).1 h))]
      refine ⟨_, _, rfl, rfl, after_open hR h hc (by omega) hF ?_ ?_ ?_⟩
      · intro j hj
        dsimp only
        rw [if_neg (by omega)]
      · intro j hj
        dsimp only
        rw [if_pos (by omega), Nat.add_sub_cancel_left]
      · intro h; exact absurd h hc'
  · rw [if_neg (fun h => hc ((open_num _).1 h)), if_neg (fun h => hc ((open_num _).1 h))]
    exact ⟨K, c, rfl, rfl, after_closed h hc⟩

end Cert.KernelIdeal.Nms

end
-- ==== Proof.KI.Rows.lean ====
/-
  The result's rows: each picks, by a row of a matrix of ones and zeros, the box whose place among the kept boxes and
  then the others is the row's number.
-/
module

public import proofs.«01_k».proof.Proof.KI.Values
public import proofs.«01_k».proof.Proof.Maths.Stable

@[expose] public section

noncomputable section

namespace Cert.KernelIdeal.Nms

open Cert.KernelIdeal.Gen Cert.Nms
open Idealize.ShloMosaic Idealize.ShloMosaic.TcCoe
open scoped Classical

/-- Counting a property up to and including a place, over a longer stretch. -/
theorem cnt_upto (K : ℕ → Prop) {r : ℕ} : ∀ n, r < n → cnt (fun x => K x ∧ x ≤ r) n = cnt K (r + 1)
  | 0, h => by omega
  | n + 1, h => by
    rcases Nat.lt_or_ge r n with h' | h'
    · rw [cnt_succ, cnt_upto K n h', if_neg (by omega), Nat.add_zero]
    · obtain rfl : r = n := by omega
      exact cnt_congr fun j hj => and_iff_left (by omega)

/-- The counts of the first `q` stretches of 128 add up to the count of their join. -/
theorem sum_stretches (K : ℕ → Prop) (q : ℕ) : ∀ n, ∑ x : Fin n, ind (x.val < q) * num (cnt (fun y => K (x.val * 128 + y)) 128) = num (cnt K (min n q * 128))
  | 0 => by simp [cnt]
  | n + 1 => by
    rw [Fin.sum_univ_castSucc]
    have := sum_stretches K q n
    simp only [Fin.val_castSucc, Fin.val_last] at this ⊢
    rw [this]
    rcases Nat.lt_or_ge n q with h | h
    · rw [ind_true h, one_mul, num_add, Nat.min_eq_left h.le, Nat.min_eq_left h, Nat.succ_mul, cnt_add]
    · rw [ind_false (by omega), zero_mul, add_zero, Nat.min_eq_right h, Nat.min_eq_right (by omega)]

/-- The two-level running count of the marks, at a place. -/
theorem running (K : ℕ → Prop) {q r : ℕ} (hq : q < 40) (hr : r < 128) :
    (∑ x : Fin 128, ind (K (q * 128 + x)) * ind (x.val ≤ r)) + (∑ x : Fin 40, ind (x.val < q) * ∑ y : Fin 128, ind (K (x.val * 128 + y)) * ind (y.val ≤ 127))
      = num (cnt K (q * 128 + r + 1)) := by
  have h1 : (∑ x : Fin 128, ind (K (q * 128 + x)) * ind (x.val ≤ r)) = num (cnt (fun y => K (q * 128 + y)) (r + 1)) := by
    rw [← cnt_upto _ 128 hr, ← sum_ind]
    exact Finset.sum_congr rfl fun x _ => ind_mul _ _
  have h2 : ∀ x : Fin 40, (∑ y : Fin 128, ind (K (x.val * 128 + y)) * ind (y.val ≤ 127)) = num (cnt (fun y => K (x.val * 128 + y)) 128) := fun x => by
    rw [← sum_ind]
    exact Finset.sum_congr rfl fun y _ => by rw [ind_true (p := y.val ≤ 127) (by omega), mul_one]
  rw [h1, Finset.sum_congr rfl (fun x _ => by rw [h2 x]), sum_stretches, Nat.min_eq_right hq.le, num_add, Nat.add_comm, ← cnt_add]
  rfl

/-- The matrix of ones and zeros: one where a box's place is the row's number. -/
theorem pay15_at (K : ℕ → Prop) (r : Fin 100) (c : Fin 5120) : k0_pay15 (F := Ideal) (line 5120 K) (ix2 r c) = ind (place K 5120 c = r) := by
  have hc := c.2
  have hr := r.2
  pointwise [k0_pay15, k0_pay14]
  rw [bit_ind]
  simp only [line_at]
  have eq : ∀ x : Fin 128, IntOp.cmpi .sle (BitVec.ofNat 32 x) (BitVec.ofNat 32 (c.val % 128)) = BitVec.ofBool (decide (x.val ≤ c.val % 128)) := fun x => word_sle (by omega) (by omega)
  have e1 : ∀ x : Fin 128, IntOp.cmpi .sle (BitVec.ofNat 32 x) 127#32 = BitVec.ofBool (decide (x.val ≤ 127)) := fun x => word_sle (by omega) (by omega)
  have e2 : ∀ x : Fin 40, IntOp.cmpi .slt (BitVec.ofNat 32 x) (BitVec.ofNat 32 (c.val / 128)) = BitVec.ofBool (decide (x.val < c.val / 128)) := fun x => word_slt (by omega) (by omega)
  have e3 : ∀ x : Fin 40, IntOp.cmpi .slt (BitVec.ofNat 32 x) 39#32 = BitVec.ofBool (decide (x.val < 39)) := fun x => word_slt (by omega) (by omega)
  simp only [eq, e1, e2, e3, bit_ind]
  have hA := running K (q := c.val / 128) (r := c.val % 128) (by omega) (by omega)
  have hB := running K (q := 39) (r := 127) (by omega) (by omega)
  rw [show c.val / 128 * 128 + c.val % 128 + 1 = c.val + 1 by omega] at hA
  rw [show 39 * 128 + 127 + 1 = 5120 by norm_num] at hB
  simp only [show 39 * 128 = 4992 by norm_num] at hB
  rw [hA, hB, word_num (n := r.val) (by omega), word_num (n := c.val) (by omega)]
  refine ind_congr ?_
  rw [← num_one, num_add]
  simp only [half_lt_ind]
  unfold place
  by_cases h : K c
  · rw [if_pos h, if_pos h, num_sub (by rw [cnt_succ, if_pos h]; omega), num_inj, cnt_succ, if_pos h]
    omega
  · have h1 : cnt K (c.val + 1) = cnt K c := by rw [cnt_succ, if_neg h, Nat.add_zero]
    have h2 := cnt_le K c
    have h3 := cnt_not K c
    rw [if_neg h, if_neg h, h1, num_sub (by omega), num_add, num_sub (by omega), num_inj]
    omega

/-- Every row number is the place of some box. -/
theorem place_onto (K : ℕ → Prop) {r : ℕ} (hr : r < 5120) : ∃ c : Fin 5120, place K 5120 c = r := by
  have inj : Function.Injective fun c : Fin 5120 => (⟨place K 5120 c, place_lt c.2⟩ : Fin 5120) := fun a b h =>
    Fin.ext (place_inj a.2 b.2 (congrArg Fin.val h))
  obtain ⟨c, hc⟩ := Finite.injective_iff_surjective.mp inj ⟨r, hr⟩
  exact ⟨c, congrArg Fin.val hc⟩

/-- A sum against the marks of one place is the entry at that place. -/
theorem sum_place {K : ℕ → Prop} {r : ℕ} {c0 : Fin 5120} (h : place K 5120 c0 = r) (f : Fin 5120 → EReal) :
    (∑ x : Fin 5120, ind (place K 5120 x = r) * f x) = f c0 := by
  rw [Finset.sum_eq_single c0]
  · rw [ind_true h, one_mul]
  · intro x _ hx
    rw [ind_false (fun hx' => hx (Fin.ext (place_inj x.2 c0.2 (hx'.trans h.symm)))), zero_mul]
  · intro h; exact absurd (Finset.mem_univ _) h

/-- A row of the result: the row of the table at the box with that place, and, in the fifth column, its score if it is
    kept and minus one if not. -/
theorem rows_at {x3 : Vec Ideal S1x5120 .f32} {x4 : Vec Ideal S5120x8 .f32} {K : ℕ → Prop} {r : Fin 100} {c0 : Fin 5120}
    (h : place K 5120 c0 = r) (c : Fin 8) :
    rows x3 x4 (line 5120 K) (ix2 r c)
      = x4 (ix2 c0 c) + (if K c0 then x3 (ix2 0 c0) else Ideal.ofBits FTy.f32 3212836864#32) * ind (c.val = 4) := by
  pointwise [rows, k0_pay7, k0_pay16, k0_pay17, k0_pay14]
  simp only [pay15_at, sum_place h, line_at, half_lt_ind]
  rw [show (4#32 : BitVec 32) = BitVec.ofNat 32 4 from rfl, word_eq (by omega) (by omega), bit_ind]

end Cert.KernelIdeal.Nms

end
-- ==== Proof.KI.Blocks.lean ====
/-
  What the windows stage at a point, and what the marks, the count and the result hold after it.
-/
module

public import proofs.«01_k».proof.Proof.KI.Host
public import proofs.«01_k».proof.Proof.KI.Frame
public import proofs.«01_k».proof.Proof.KI.Steps
public import proofs.«01_k».proof.Proof.KI.Rows
public import Idealize.ShloMosaic.Lib.Pipeline.ValueKit

@[expose] public section

set_option maxRecDepth 16384

noncomputable section

namespace Cert.KernelIdeal.Nms

open Cert.KernelIdeal.Gen Cert.Nms
open Idealize.ShloMosaic Idealize.ShloMosaic.TcCoe Idealize.SL.Sem
open scoped Classical

variable (m : (ℓ : Loc nD τ sig) → Buf (Elt Ideal) ℓ) (c : Dev nD)

/-- The point's coordinate is its number. -/
theorem coord_at (t : Fin (cfg0 (F := Ideal)).N) : (grid0.coords t 0).val = t.val := by
  have ht : t.val < 5 := Nat.lt_of_lt_of_eq t.isLt N_0
  have e0 : (grid0.coords t 0).val = t.val / 1 % 5 := Pipeline.Grid.coords_val t 0 (by decide) rfl
  omega

theorem toNat_coord (t : Fin (cfg0 (F := Ideal)).N) : (BitVec.ofNat 32 (grid0.coords t 0).val).toNat = t.val := by
  have ht : t.val < 5 := Nat.lt_of_lt_of_eq t.isLt N_0
  rw [coord_at, BitVec.toNat_ofNat]
  omega

theorem index0 (t : Fin (cfg0 (F := Ideal)).N) (j : Fin 1024) (d : Fin 4) (h : 1024 * t.val + j.val < 5120) :
    ((((cfg0 (F := Ideal)).win 0).blk t).view.emb (ix2 j d) : S5120x4.Idx) = ix2 (⟨1024 * t.val + j.val, h⟩ : Fin 5120) d := by
  have e := toNat_coord t
  have e' : win0_0.index t 0 = t.val := e
  have e'' : win0_0.index t 1 = 0 := rfl
  funext a
  apply Fin.ext
  match a with
  | ⟨0, _⟩ => blk_simp; rw [e']; show t.val * 1024 + j.val = 1024 * t.val + j.val; omega
  | ⟨1, _⟩ => blk_simp; rw [e'']; omega

theorem index1 (t : Fin (cfg0 (F := Ideal)).N) (j : Fin 5120) (d : Fin 4) :
    ((((cfg0 (F := Ideal)).win 1).blk t).view.emb (ix2 d j) : S4x5120.Idx) = ix2 d j := by
  have e' : win0_1.index t 0 = 0 := rfl
  have e'' : win0_1.index t 1 = 0 := rfl
  funext a
  apply Fin.ext
  match a with
  | ⟨0, _⟩ => blk_simp; rw [e']; omega
  | ⟨1, _⟩ => blk_simp; rw [e'']; omega

theorem index2 (t : Fin (cfg0 (F := Ideal)).N) (j : Fin 1024) (d : Fin 4) (h : 1024 * t.val + j.val < 5120) :
    ((((cfg0 (F := Ideal)).win 2).blk t).view.emb (ix2 d j) : S4x5120.Idx) = ix2 d (⟨1024 * t.val + j.val, h⟩ : Fin 5120) := by
  have e := toNat_coord t
  have e' : win0_2.index t 0 = 0 := rfl
  have e'' : win0_2.index t 1 = t.val := e
  funext a
  apply Fin.ext
  match a with
  | ⟨0, _⟩ => blk_simp; rw [e']; omega
  | ⟨1, _⟩ => blk_simp; rw [e'']; show t.val * 1024 + j.val = 1024 * t.val + j.val; omega

theorem index3 (t : Fin (cfg0 (F := Ideal)).N) (j : Fin 5120) :
    ((((cfg0 (F := Ideal)).win 3).blk t).view.emb (ix2 0 j) : S1x5120.Idx) = ix2 0 j := by
  have e' : win0_3.index t 0 = 0 := rfl
  have e'' : win0_3.index t 1 = 0 := rfl
  funext a
  apply Fin.ext
  match a with
  | ⟨0, _⟩ => blk_simp; rw [e']; rfl
  | ⟨1, _⟩ => blk_simp; rw [e'']; omega

theorem index4 (t : Fin (cfg0 (F := Ideal)).N) (j : Fin 5120) (d : Fin 8) :
    ((((cfg0 (F := Ideal)).win 4).blk t).view.emb (ix2 j d) : S5120x8.Idx) = ix2 j d := by
  have e' : win0_4.index t 0 = 0 := rfl
  have e'' : win0_4.index t 1 = 0 := rfl
  funext a
  apply Fin.ext
  match a with
  | ⟨0, _⟩ => blk_simp; rw [e']; omega
  | ⟨1, _⟩ => blk_simp; rw [e'']; omega

/-- Window 0 stages the point's own ordered boxes, one to a row, -/
theorem iblk0 (t : Fin (cfg0 (F := Ideal)).N) (j : Fin 1024) (d : Fin 4) :
    @Eq EReal ((iblk m c 0 t : Vec Ideal S1024x4 .f32) (ix2 j d)) (box (boxes m c) (scores m c) (1024 * t.val + j.val) d) := by
  have ht : t.val < 5 := Nat.lt_of_lt_of_eq t.isLt N_0
  have h : 1024 * t.val + j.val < 5120 := by omega
  exact (congrArg (V m c main_v26 : S5120x4.Idx → EReal) (index0 t j d h)).trans (V_v26 m c ⟨_, h⟩ d)

/-- window 1 all of them, one to a column, -/
theorem iblk1 (t : Fin (cfg0 (F := Ideal)).N) (j : Fin 5120) (d : Fin 4) :
    @Eq EReal ((iblk m c 1 t : Vec Ideal S4x5120 .f32) (ix2 d j)) (box (boxes m c) (scores m c) j d) :=
  (congrArg (V m c main_v25 : S4x5120.Idx → EReal) (index1 t j d)).trans (V_v25 m c j d)

/-- window 2 the point's own, one to a column, -/
theorem iblk2 (t : Fin (cfg0 (F := Ideal)).N) (j : Fin 1024) (d : Fin 4) :
    @Eq EReal ((iblk m c 2 t : Vec Ideal S4x1024 .f32) (ix2 d j)) (box (boxes m c) (scores m c) (1024 * t.val + j.val) d) := by
  have ht : t.val < 5 := Nat.lt_of_lt_of_eq t.isLt N_0
  have h : 1024 * t.val + j.val < 5120 := by omega
  exact (congrArg (V m c main_v25 : S4x5120.Idx → EReal) (index2 t j d h)).trans (V_v25 m c ⟨_, h⟩ d)

/-- window 3 the ordered scores, -/
theorem iblk3 (t : Fin (cfg0 (F := Ideal)).N) (j : Fin 5120) :
    @Eq EReal ((iblk m c 3 t : Vec Ideal S1x5120 .f32) (ix2 0 j)) (score (scores m c) j) :=
  (congrArg (V m c main_v29 : S1x5120.Idx → EReal) (index3 t j)).trans (V_v29 m c j)

/-- and window 4 the ordered boxes, one to a row, with zeros beside them. -/
theorem iblk4 (t : Fin (cfg0 (F := Ideal)).N) (j : Fin 5120) (d : Fin 8) :
    @Eq EReal ((iblk m c 4 t : Vec Ideal S5120x8 .f32) (ix2 j d)) (if h : d.val < 4 then box (boxes m c) (scores m c) j ⟨d.val, h⟩ else 0) :=
  (congrArg (V m c main_v28 : S5120x8.Idx → EReal) (index4 t j d)).trans (V_v28 m c j d)

/-- One point takes marks and a count that agree with the greedy choice so far to marks and a count that agree with it
    one block further. -/
theorem point_after {R : ℕ → Prop} (hR : Greedy (Eligible (scores m c)) (Over (box (boxes m c) (scores m c))) R) (t : Fin (cfg0 (F := Ideal)).N)
    {keep : Vec Ideal S1x5120 .f32} {n : EReal} {K : ℕ → Prop} {k : ℕ} (hk : keep = line 5120 K) (hn : n = num k)
    (h : After 1024 5120 100 (Eligible (scores m c)) (Over (box (boxes m c) (scores m c))) R t.val K k) :
    ∃ K' k', keepStep (grid0.coords t) (iblk m c 0 t) (iblk m c 1 t) (iblk m c 2 t) keep n = line 5120 K'
      ∧ cntStep (grid0.coords t) (iblk m c 0 t) (iblk m c 2 t) keep n = num k'
      ∧ After 1024 5120 100 (Eligible (scores m c)) (Over (box (boxes m c) (scores m c))) R (t.val + 1) K' k' := by
  subst hk; subst hn
  have e := coord_at t
  rw [← e] at h ⊢
  exact step_after (grid0.coords t) hR (fun j d => by rw [e]; exact iblk0 m c t j d) (fun j d => iblk1 m c t j d) (fun j d => by rw [e]; exact iblk2 m c t j d) h

/-- A point takes the state before it to the state after it, where the marks and the count it starts from agree with the
    greedy choice up to its block. -/
theorem state_point {R : ℕ → Prop} (hR : Greedy (Eligible (scores m c)) (Over (box (boxes m c) (scores m c))) R) (t : Fin (cfg0 (F := Ideal)).N)
    {K : ℕ → Prop} {k : ℕ} (hk : keepAt (grid0.coords t) (iblk m c 3 t) (state m c t.val).1 = line 5120 K) (hn : cntAt (grid0.coords t) (state m c t.val).2 = num k)
    (h : After 1024 5120 100 (Eligible (scores m c)) (Over (box (boxes m c) (scores m c))) R t.val K k) :
    ∃ K' k', (state m c (t.val + 1)).1 = line 5120 K' ∧ (state m c (t.val + 1)).2 = num k'
      ∧ After 1024 5120 100 (Eligible (scores m c)) (Over (box (boxes m c) (scores m c))) R (t.val + 1) K' k' := by
  obtain ⟨K', k', h1, h2, h3⟩ := point_after m c hR t hk hn h
  exact ⟨K', k', (congrArg Prod.fst (state_succ m c t)).trans h1, (congrArg Prod.snd (state_succ m c t)).trans h2, h3⟩

/-- After each point the marks and the count agree with the greedy choice up to the end of the point's block. -/
theorem state_after {R : ℕ → Prop} (hR : Greedy (Eligible (scores m c)) (Over (box (boxes m c) (scores m c))) R) :
    ∀ (n : ℕ) (t : Fin (cfg0 (F := Ideal)).N), t.val = n → ∃ K k, (state m c (t.val + 1)).1 = line 5120 K ∧ (state m c (t.val + 1)).2 = num k
      ∧ After 1024 5120 100 (Eligible (scores m c)) (Over (box (boxes m c) (scores m c))) R (t.val + 1) K k := by
  intro n
  induction n with
  | zero =>
    intro t ht
    have h0 : cond0_0 (grid0.coords t) := (hcond0_0 t).mpr (by omega)
    refine state_point m c hR t (K := Eligible (scores m c)) (k := 0) ?_ ?_ ?_
    · exact (if_pos h0).trans (first_line (s := score (scores m c)) (iblk3 m c t))
    · exact (if_pos h0).trans (Ideal.ofBits_zero_f32.trans num_zero.symm)
    · rw [ht]; exact after_zero
  | succ n ih =>
    intro t ht
    have hN : t.val < 5 := lt_of_lt_of_eq t.isLt N_0
    have h0 : ¬ cond0_0 (grid0.coords t) := fun h => by have := (hcond0_0 t).mp h; omega
    obtain ⟨K, k, h1, h2, h3⟩ := ih ⟨n, by omega⟩ rfl
    have e : n + 1 = t.val := ht.symm
    rw [show ((⟨n, by omega⟩ : Fin (cfg0 (F := Ideal)).N).val + 1) = t.val from e] at h1 h2 h3
    exact state_point m c hR t ((if_neg h0).trans h1) ((if_neg h0).trans h2) h3

/-- The result's row at the place of an ordered position: its box and its score, or minus one where it is not chosen. -/
theorem rows_value {R : ℕ → Prop} (hR : Greedy (Eligible (scores m c)) (Over (box (boxes m c) (scores m c))) R) (t : Fin (cfg0 (F := Ideal)).N) (ht : t.val = 4)
    {r : Fin 100} {p : Fin 5120} (hp : place R 5120 p = r) (d : Fin 8) :
    @Eq EReal (rows (iblk m c 3 t) (iblk m c 4 t) (state m c (t.val + 1)).1 (ix2 r d))
      ((if h : d.val < 4 then box (boxes m c) (scores m c) p ⟨d.val, h⟩ else 0)
        + (if R p then score (scores m c) p else Ideal.ofBits FTy.f32 3212836864#32) * ind (d.val = 4)) := by
  obtain ⟨K, k, h1, -, h3⟩ := state_after m c hR 4 t ht
  rw [ht] at h3
  obtain ⟨hK, hr⟩ := place_after (B := 1024) (b := 5) h3 (p := p) p.2 hp r.2
  rw [h1]
  refine (rows_at (x3 := iblk m c 3 t) (x4 := iblk m c 4 t) hr d).trans ?_
  rw [iblk4]
  refine congrArg (fun y : EReal => _ + y * ind (d.val = 4)) ?_
  rw [if_congr hK (iblk3 m c t p) rfl]

end Cert.KernelIdeal.Nms

end
-- ==== Proof.KI.Result.lean ====
/-
  What the kernel's program ends with: the result, at a row and a column, and the arguments unchanged.
-/
module

public import proofs.«01_k».proof.Proof.KI.Blocks

@[expose] public section

set_option maxRecDepth 16384

noncomputable section

namespace Cert.KernelIdeal.Nms

open Cert.KernelIdeal.Gen Cert.Nms
open Idealize.ShloMosaic Idealize.ShloMosaic.TcCoe Idealize.SL.Sem
open scoped Classical

variable (m : (ℓ : Loc nD τ sig) → Buf (Elt Ideal) ℓ) (ρ : Dev nD → PrngReg) (c : Dev nD)

/-- The last point. -/
def lastPt : Fin (cfg0 (F := Ideal)).N := ⟨4, by rw [show (cfg0 (F := Ideal)).N = 5 from N_0]; omega⟩

/-- The rows' array after the launch: what the last point leaves. -/
theorem rows_array : ((dats m 0 c).arrAt 5 (cfg0 (F := Ideal)).N : S100x8.Idx → EReal)
    = rows (iblk m c 3 lastPt) (iblk m c 4 lastPt) (state m c (lastPt.val + 1)).1 := by
  refine (dats m 0 c).arrAt_eq_of_after_last 5 lastPt (by decide +kernel) _ fun j => ?_
  rw [after0_5]
  rfl

/-- The result buffer's contents at the end. -/
def result (c : Dev nD) : Buf (Elt Ideal) ((c.tc : Thread nD τ).loc main_v31) := Pipeline.afterTail₀ (cfgs (F := Ideal)) (dats m) 0 (V0 m) [hostOps1] c main_v31

/-- The result is the rows' first five columns. -/
theorem result_at (r : Fin 100) (d : Fin 5) :
    @Eq EReal ((result m c : S100x5.Idx → EReal) (ix2 r d))
      (rows (iblk m c 3 lastPt) (iblk m c 4 lastPt) (state m c (lastPt.val + 1)).1 (ix2 r (⟨d.val, by omega⟩ : Fin 8))) := by
  have h := congrFun (rows_array m c) (ix2 r (⟨d.val, by omega⟩ : Fin 8))
  refine Eq.trans ?_ h
  have hw : Pipeline.withArrays (cfg0 (F := Ideal)).spec c (V0 m c) (fun w => (dats m 0 c).arrAt w (cfg0 (F := Ideal)).N) (Proc.devRef .tc main_v30_0)
      = (dats m 0 c).arrAt 5 (cfg0 (F := Ideal)).N :=
    Pipeline.Dat.withArrays_arrAt (dats m 0 c) sharedIn0 (V0 m c) (A_eq m c) 5
  refine Eq.trans ?_ (congrFun hw (ix2 r (⟨d.val, by omega⟩ : Fin 8)))
  unfold result Pipeline.afterTail₀
  generalize Pipeline.withArrays _ _ _ _ = W
  repeat after_reads_at

/-- THE RUN: the result buffer ends at `result` and the arguments end as they were. -/
theorem run_value :
    θ_run (defs (F := Ideal)) (onTc (τ := τ) (main (F := Ideal))) ⟨m, fun _ => 0, ρ⟩ (fun r => ∀ c : Dev nD,
      r.2.mem ((c.tc : Thread nD τ).loc main_v31) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 main_v31 (Pipeline.mem_restRefs_of main_v31 (by decide) (by decide)),
    (((h c).2 main_arg0 (Pipeline.mem_restRefs_of main_arg0 (by decide) arr_ne0)).trans (W_main_arg0 m (dats m) c)),
      (((h c).2 main_arg1 (Pipeline.mem_restRefs_of main_arg1 (by decide) arr_ne1)).trans (W_main_arg1 m (dats m) c))⟩) (run_main m ρ)

end Cert.KernelIdeal.Nms

end
-- ==== Proof.RI.Entry.lean ====
/-
  What the reference computes before its loop: the ordered boxes and scores, the pairwise overlaps and the first marks.
-/
module

public import proofs.«01_k».proof.Proof.RI.Frame
public import proofs.«01_k».proof.Proof.Maths.Sorted
public import Idealize.ShloMosaic.Lib.StableHlo.ReadAt
public import Idealize.ShloMosaic.Lib.Routing.OpsSet
public import Idealize.ShloMosaic.Lib.Routing.OpsPair

@[expose] public section

noncomputable section

namespace Cert.ReferenceIdeal.Nms

open Cert.ReferenceIdeal.Value Cert.ReferenceIdeal.Gen Cert.Nms
open Idealize.ShloMosaic Idealize.ShloMosaic.TcCoe Idealize.SL.Sem
open Idealize.ShloMosaic.StableHlo
open scoped Classical

/-- "Greater" as the bit of its truth. -/
theorem gt_bit (x y : EReal) [Decidable (y < x)] : Ideal.cmp .ogt x y = BitVec.ofBool (decide (y < x)) := by
  by_cases h : y < x
  · exact ((ogt_bit _ _).mpr h).trans (by rw [decide_eq_true h]; rfl)
  · rw [decide_eq_false h]
    have := mt (ogt_bit x y).mp h
    revert this
    generalize Ideal.cmp .ogt x y = z
    revert z
    decide

/-- The reference's sort compares the first components. -/
theorem pairs_before (r r' : EReal × BitVec 32) : comparator_f32_i32_d0 (F := Ideal) r r' = BitVec.ofBool (decide (r.1 < r'.1)) := before_bit _ _

variable (X : Valuation τ sig (Elt Ideal))

/-- The scores in `X`. -/
def scoresIn (k : Fin 5000) : EReal := (X (Proc.devRef .tc main_arg1) : S5000.Idx → EReal) (ix1 k)

/-- The boxes in `X`. -/
def boxesIn (k : Fin 5000) (d : Fin 4) : EReal := (X (Proc.devRef .tc main_arg0) : S5000x4.Idx → EReal) (ix2 k d)

/-- The key the reference sorts by. -/
theorem neg_thr (x : FVec Ideal S5000 .f32) (k : Fin 5000) :
    @Eq EReal ((Host.negf (select (cmpf CmpFPredicate.ogt x (broadcastInDim S5000 ![] bcast_S_S5000 (constant S_ FTy.f32 1028443341#32)))
      x (broadcastInDim S5000 ![] bcast_S_S5000 (id (constant S_ FTy.f32 3212836864#32)))) : FVec Ideal S5000 .f32) (ix1 k)) (-(thr (fun k => x (ix1 k)) k)) := by
  pointwise
  rfl

/-- The order: which position comes at each rank. -/
theorem order_at (i : Fin 5000) :
    @Eq (BitVec 32) ((after hostOps0_3 (after hostOps0_2 (after hostOps0_1 (after hostOps0 X))) (Proc.devRef .tc main_v4) : S5000.Idx → BitVec 32) (ix1 i))
      (BitVec.ofNat 32 (perm (scoresIn X) i).val) := by
  repeat after_reads_at
  rw [Host.sort2_eq_sortBy]
  dsimp only
  refine (sortBy_at (thr (scoresIn X)) _ _ (fun k k' => ?_) _ i).trans rfl
  rw [pairs_before]
  refine congrArg BitVec.ofBool (decide_eq_decide.mpr ?_)
  refine Iff.trans (iff_of_eq (congrArg₂ (· < ·) (neg_thr (X (Proc.devRef .tc main_arg1)) k) (neg_thr (X (Proc.devRef .tc main_arg1)) k'))) (neg_lt_iff _ _)

/-- The thresholded scores. -/
theorem thr_at (k : Fin 5000) :
    @Eq EReal ((after hostOps0_3 (after hostOps0_2 (after hostOps0_1 (after hostOps0 X))) (Proc.devRef .tc main_v2) : S5000.Idx → EReal) (ix1 k)) (thr (scoresIn X) k) := by
  repeat after_reads_at
  pointwise
  rfl

/-- A wrapped index that needs no wrapping. -/
theorem wrapped {n : ℕ} {w : (⟨1, ![n]⟩ : Shape).Idx → BitVec 32} {p : Fin 5000} {i : Fin n} (hw : w (ix1 i) = BitVec.ofNat 32 p.val) (a : BitVec 32) :
    Scalar.select (IntOp.cmpi .slt (w (ix1 i)) 0#32) a (w (ix1 i)) = BitVec.ofNat 32 p.val := by
  rw [hw]
  refine Routing.wrap_of_lt _ _ ?_
  have := p.2
  rw [BitVec.toNat_ofNat, Nat.mod_eq_of_lt (by omega)]
  omega

variable {X} {s : Fin 5000 → EReal} {b : Fin 5000 → Fin 4 → EReal}
  (h4 : ∀ i, @Eq (BitVec 32) ((X (Proc.devRef .tc main_v4) : S5000.Idx → BitVec 32) (ix1 i)) (BitVec.ofNat 32 (perm s i).val))
  (h2 : ∀ k, @Eq EReal ((X (Proc.devRef .tc main_v2) : S5000.Idx → EReal) (ix1 k)) (thr s k))
  (h0 : ∀ k d, @Eq EReal ((X (Proc.devRef .tc main_arg0) : S5000x4.Idx → EReal) (ix2 k d)) (b k d))

include h4 in
/-- The column of indices the gathers read. -/
theorem column_at (i : Fin 5000) :
    (broadcastInDim S5000x1 ![0] bcast_S5000_S5000x1_0
      (select (cmpi CmpIPredicate.slt (X (Proc.devRef .tc main_v4)) (broadcastInDim S5000 ![] bcast_S_S5000 (constantI S_ 32 0#32)))
        (addi (X (Proc.devRef .tc main_v4)) (broadcastInDim S5000 ![] bcast_S_S5000 (constantI S_ 32 5000#32)))
        (X (Proc.devRef .tc main_v4))) : IVec S5000x1 32) (ix2 i 0) = BitVec.ofNat 32 (perm s i).val := by
  pointwise
  exact wrapped (h4 i) _

include h4 h0 in
/-- The gathered boxes are the ordered ones. -/
theorem gathered_box (i : Fin 5000) (d : Fin 4) :
    @Eq EReal (Host.gather gather_S5000x4_S5000x1_S5000x4_1_0_n_n_0_1_14 (X (Proc.devRef .tc main_arg0))
      (broadcastInDim S5000x1 ![0] bcast_S5000_S5000x1_0
      (select (cmpi CmpIPredicate.slt (X (Proc.devRef .tc main_v4)) (broadcastInDim S5000 ![] bcast_S_S5000 (constantI S_ 32 0#32)))
        (addi (X (Proc.devRef .tc main_v4)) (broadcastInDim S5000 ![] bcast_S_S5000 (constantI S_ 32 5000#32)))
        (X (Proc.devRef .tc main_v4)))) (ix2 i d)) (box b s i d) := by
  rw [box_at]
  exact (Routing.gather_row gather_S5000x4_S5000x1_S5000x4_1_0_n_n_0_1_14 rfl rfl rfl rfl rfl _ _ i d (perm s i) (column_at h4 i) (by norm_num)).trans (h0 _ _)

include h4 h2 in
/-- The gathered scores are the ordered ones. -/
theorem gathered_score (i : Fin 5000) :
    @Eq EReal (Host.gather gather_S5000_S5000x1_S5000_n_0_n_n_0_1_1 (X (Proc.devRef .tc main_v2))
      (broadcastInDim S5000x1 ![0] bcast_S5000_S5000x1_0
      (select (cmpi CmpIPredicate.slt (X (Proc.devRef .tc main_v4)) (broadcastInDim S5000 ![] bcast_S_S5000 (constantI S_ 32 0#32)))
        (addi (X (Proc.devRef .tc main_v4)) (broadcastInDim S5000 ![] bcast_S_S5000 (constantI S_ 32 5000#32)))
        (X (Proc.devRef .tc main_v4)))) (ix1 i)) (score s i) := by
  rw [score_at]
  exact (Routing.gather_take1 gather_S5000_S5000x1_S5000_n_0_n_n_0_1_1 rfl rfl rfl rfl _ _ i (perm s i) (column_at h4 i) (by norm_num)).trans (h2 _)

include h4 h0 in
/-- The boxes the rows are taken from. -/
theorem sorted_box (i : Fin 5000) (d : Fin 4) :
    @Eq EReal ((after hostOps0_6 (after hostOps0_5 (after hostOps0_4 X)) (Proc.devRef .tc main_v11) : S5000x4.Idx → EReal) (ix2 i d)) (box b s i d) := by
  repeat after_reads_at
  exact gathered_box h4 h0 i d

include h4 h2 in
/-- The scores the rows are taken from. -/
theorem sorted_score (i : Fin 5000) :
    @Eq EReal ((after hostOps0_6 (after hostOps0_5 (after hostOps0_4 X)) (Proc.devRef .tc main_v18) : S5000.Idx → EReal) (ix1 i)) (score s i) := by
  repeat after_reads_at
  exact gathered_score h4 h2 i

include h4 h0 in
/-- The overlaps the loop reads. -/
theorem overlap_at (i j : Fin 5000) :
    @Eq EReal ((after hostOps0_6 (after hostOps0_5 (after hostOps0_4 X)) (Proc.devRef .tc main_v75_1) : S5000x5000.Idx → EReal) (ix2 i j)) (iou (box b s i) (box b s j)) := by
  repeat after_reads_at
  have hG := gathered_box h4 h0
  generalize Host.gather gather_S5000x4_S5000x1_S5000x4_1_0_n_n_0_1_14 (X (Proc.devRef .tc main_arg0)) _ = G at hG ⊢
  refine Eq.trans (b := iou (fun d => G (ix2 i d)) (fun d => G (ix2 j d))) ?_ (congrArg₂ iou (funext (hG i)) (funext (hG j)))
  clear hG
  simp only [iou, max_comm _ (0 : EReal)]
  rw [← Ideal.ofBits_zero_f32]
  rfl

include h4 h2 in
/-- The first marks: the eligible positions. -/
theorem marks_at (i : Fin 5000) :
    @Eq (BitVec 1) ((after hostOps0_6 (after hostOps0_5 (after hostOps0_4 X)) (Proc.devRef .tc main_v75_4) : S5000.Idx → BitVec 1) (ix1 i))
      (BitVec.ofBool (decide (Eligible s i))) := by
  repeat after_reads_at
  refine (congrArg (fun x : EReal => Ideal.cmp .ogt x (Ideal.ofBits .f32 1028443341#32)) (gathered_score h4 h2 i)).trans ?_
  exact @gt_bit _ _ (Classical.propDecidable (Eligible s i.val))

/-- The loop's positions. -/
theorem range_at (i : Fin 5000) :
    @Eq (BitVec 32) ((after hostOps0_6 (after hostOps0_5 (after hostOps0_4 X)) (Proc.devRef .tc main_v75_0) : S5000.Idx → BitVec 32) (ix1 i)) (BitVec.ofNat 32 i.val) := by
  repeat after_reads_at
  rfl

/-- The positions the marks are compared at. -/
theorem place_at (i : Fin 5000) :
    @Eq (BitVec 32) ((after hostOps0_6 (after hostOps0_5 (after hostOps0_4 X)) (Proc.devRef .tc main_v75_2) : S5000.Idx → BitVec 32) (ix1 i)) (BitVec.ofNat 32 i.val) := by
  repeat after_reads_at
  rfl

end Cert.ReferenceIdeal.Nms

end
-- ==== Proof.Maths.Sweep.lean ====
/-
  One sweep over the positions in order, each crossing out what it covers, ends at the greedy marks.
-/
module

public import proofs.«01_k».proof.Proof.Maths.Greedy

@[expose] public section

namespace Cert.Nms

variable {n : ℕ} {init : ℕ → Prop} {S : ℕ → ℕ → Prop} {K : ℕ → ℕ → Prop}

/-- What is marked before step `k`: the first marks not covered by an earlier position that was marked at its own step. -/
theorem sweep_before (h0 : ∀ j < n, K 0 j ↔ init j) (hs : ∀ k < n, ∀ j < n, K (k + 1) j ↔ K k j ∧ ¬ (S k j ∧ k < j ∧ K k k)) :
    ∀ k ≤ n, ∀ j < n, K k j ↔ init j ∧ ∀ i < k, i < j → K i i → ¬ S i j
  | 0, _, j, hj => by rw [h0 j hj]; exact ⟨fun h => ⟨h, fun i hi => absurd hi (Nat.not_lt_zero i)⟩, fun h => h.1⟩
  | k + 1, hk, j, hj => by
    rw [hs k hk j hj, sweep_before h0 hs k (Nat.le_of_succ_le hk) j hj]
    constructor
    · rintro ⟨⟨a, b⟩, c⟩
      refine ⟨a, fun i hi hij hii hS => ?_⟩
      rcases Nat.lt_succ_iff_lt_or_eq.mp hi with h | rfl
      · exact b i h hij hii hS
      · exact c ⟨hS, hij, hii⟩
    · rintro ⟨a, b⟩
      exact ⟨⟨a, fun i hi => b i (Nat.lt_succ_of_lt hi)⟩, fun ⟨hS, hij, hii⟩ => b k (Nat.lt_succ_self k) hij hii hS⟩

/-- The marks after the last step are the greedy ones. -/
theorem sweep_greedy (h0 : ∀ j < n, K 0 j ↔ init j) (hs : ∀ k < n, ∀ j < n, K (k + 1) j ↔ K k j ∧ ¬ (S k j ∧ k < j ∧ K k k))
    (hf : ∀ j, n ≤ j → ¬ init j) : Greedy init S (fun j => j < n ∧ K n j) := by
  have own : ∀ j < n, K n j ↔ K j j := fun j hj => by
    rw [sweep_before h0 hs n (Nat.le_refl n) j hj, sweep_before h0 hs j (Nat.le_of_lt hj) j hj]
    exact ⟨fun h => ⟨h.1, fun i hi => h.2 i (Nat.lt_trans hi hj)⟩, fun h => ⟨h.1, fun i _ hij => h.2 i hij hij⟩⟩
  intro j
  by_cases hj : j < n
  · refine ⟨fun h => ?_, fun h => ⟨hj, (own j hj).mpr ((sweep_before h0 hs j (Nat.le_of_lt hj) j hj).mpr ⟨h.1, fun i hi _ hii => ?_⟩)⟩⟩
    · have := (sweep_before h0 hs n (Nat.le_refl n) j hj).mp h.2
      exact ⟨this.1, fun i hi hR => this.2 i hR.1 hi ((own i hR.1).mp hR.2)⟩
    · have hin := Nat.lt_trans hi hj
      exact h.2 i hi ⟨hin, (own i hin).mpr hii⟩
  · exact ⟨fun h => absurd h.1 hj, fun h => absurd h.1 (hf j (Nat.le_of_not_lt hj))⟩

/-- The marks before step `k`. -/
def sweep (init : ℕ → Prop) (S : ℕ → ℕ → Prop) : ℕ → ℕ → Prop
  | 0, j => init j
  | k + 1, j => sweep init S k j ∧ ¬ (S k j ∧ k < j ∧ sweep init S k k)

/-- The marks the sweep ends with, at the positions there are. -/
def swept (n : ℕ) (init : ℕ → Prop) (S : ℕ → ℕ → Prop) (j : ℕ) : Prop := j < n ∧ sweep init S n j

/-- They are the greedy ones. -/
theorem swept_greedy {n : ℕ} {init : ℕ → Prop} {S : ℕ → ℕ → Prop} (hf : ∀ j, n ≤ j → ¬ init j) : Greedy init S (swept n init S) :=
  sweep_greedy (fun _ _ => Iff.rfl) (fun _ _ _ _ => Iff.rfl) hf

end Cert.Nms
-- ==== Proof.RI.Loop.lean ====
/-
  The reference's loop: one trip crosses out what its position covers, and all trips leave the greedy marks.
-/
module

public import proofs.«01_k».proof.Proof.RI.Entry
public import proofs.«01_k».proof.Proof.Maths.Sweep
public import Idealize.ShloMosaic.Lib.WordCmp
public import Idealize.ShloMosaic.Lib.DynamicIndex

@[expose] public section

noncomputable section

namespace Cert.ReferenceIdeal.Nms

open Cert.ReferenceIdeal.Value Cert.ReferenceIdeal.Gen Cert.Nms
open Idealize.ShloMosaic Idealize.ShloMosaic.TcCoe Idealize.SL.Sem
open Idealize.ShloMosaic.StableHlo
open scoped Classical

/-- One entry taken at a position. -/
theorem pick_one {α : Type} (x : S5000.Idx → α) {k : ℕ} (hk : k < 5000) (st : Fin 1 → Int) (hst : ∀ a, st a = k) (i : S_.Idx) :
    shapeCast S_ (Host.dynamicSlice S1 x st sliceFits_S5000_S1) shapeCasts_S1_S_ i = x (ix1 ⟨k, hk⟩) := by
  rw [WordCmp.dynamicSlice_eq_extract S1 x st sliceFits_S5000_S1 (fun _ => k) ⟨rfl, fun a => by fin_cases a; show k + 1 ≤ 5000; omega⟩ hst]
  refine congrArg x (funext fun a => ?_)
  fin_cases a
  refine Fin.ext ?_
  show k + _ = k
  refine Nat.add_eq_left.mpr ?_
  exact Nat.lt_one_iff.mp (Fin.isLt _)

/-- One row taken at a position. -/
theorem pick_row {α : Type} (x : S5000x5000.Idx → α) {k : ℕ} (hk : k < 5000) (st : Fin 2 → Int) (h0 : st 0 = k) (h1 : st 1 = 0) (j : Fin 5000) :
    shapeCast S5000 (Host.dynamicSlice S1x5000 x st sliceFits_S5000x5000_S1x5000) shapeCasts_S1x5000_S5000 (ix1 j) = x (ix2 ⟨k, hk⟩ j) := by
  rw [WordCmp.dynamicSlice_eq_extract S1x5000 x st sliceFits_S5000x5000_S1x5000 ![k, 0]
    ⟨rfl, fun a => by fin_cases a <;> [(show k + 1 ≤ 5000; omega); (show 0 + 5000 ≤ 5000; omega)]⟩
    (fun a => by fin_cases a <;> [exact h0; exact h1])]
  pointwise

variable {V : Valuation τ sig (Elt Ideal)} {k : ℕ} (hk : k < 5000)
  (h0 : ∀ i : Fin 5000, @Eq (BitVec 32) ((V (Proc.devRef .tc main_v75_0) : S5000.Idx → BitVec 32) (ix1 i)) (BitVec.ofNat 32 i.val))
  (h3 : V (Proc.devRef .tc main_v75_3) = fun _ => BitVec.ofNat 32 k)

include hk h0 h3 in
/-- The position a trip works at. -/
theorem position : res_main_while0b_v86 V = constantI S_ 32 (BitVec.ofNat 32 k) := by
  funext i
  refine (pick_one (V (Proc.devRef .tc main_v75_0)) hk _ (fun a => ?_) i).trans (h0 ⟨k, hk⟩)
  fin_cases a
  show BitVec.toInt ((V (Proc.devRef .tc main_v75_3) : S_.Idx → BitVec 32) _) = k
  rw [h3]
  exact word_int (by omega)

variable {O : Fin 5000 → Fin 5000 → EReal} {K : ℕ → Prop}
  (h1 : ∀ i j : Fin 5000, @Eq EReal ((V (Proc.devRef .tc main_v75_1) : S5000x5000.Idx → EReal) (ix2 i j)) (O i j))
  (h2 : ∀ i : Fin 5000, @Eq (BitVec 32) ((V (Proc.devRef .tc main_v75_2) : S5000.Idx → BitVec 32) (ix1 i)) (BitVec.ofNat 32 i.val))
  (hK : ∀ i : Fin 5000, @Eq (BitVec 1) ((V (Proc.devRef .tc main_v75_4) : S5000.Idx → BitVec 1) (ix1 i)) (BitVec.ofBool (decide (K i.val))))

/-- "This and not that" on bits. -/
theorem and_not_bits (p q : Prop) [Decidable p] [Decidable q] : IntOp.andi (BitVec.ofBool (decide p)) (~~~ (BitVec.ofBool (decide q))) = BitVec.ofBool (decide (p ∧ ¬ q)) := by
  by_cases h : p <;> by_cases h' : q <;> simp [h, h', IntOp.andi]

/-- A position's word, wrapped if negative. -/
def wrapWord (n : ℕ) : S_.Idx → BitVec 32 :=
  select (cmpi .slt (constantI S_ 32 (BitVec.ofNat 32 n)) (constantI S_ 32 0#32)) (addi (constantI S_ 32 (BitVec.ofNat 32 n)) (constantI S_ 32 5000#32)) (constantI S_ 32 (BitVec.ofNat 32 n))

/-- Read signed, it is the position. -/
theorem wrapWord_int {n : ℕ} (h : n < 2 ^ 31) (i : S_.Idx) : (wrapWord n i).toInt = n := toInt_wrap_ofNat n h

/-- "It is covered, by an earlier position that is marked" on bits. -/
theorem covered_bits (x : EReal) {k : ℕ} (hk : k < 5000) (j : Fin 5000) (p : Prop) [Decidable p] :
    IntOp.andi (IntOp.andi (Ideal.cmp .ogt x (Ideal.ofBits .f32 1056964608#32)) (IntOp.cmpi .sgt (BitVec.ofNat 32 j.val) (BitVec.ofNat 32 k)))
      (BitVec.ofBool (decide p)) = BitVec.ofBool (decide (Ideal.ofBits FTy.f32 1056964608#32 < x ∧ k < j.val ∧ p)) := by
  have hj := j.2
  rw [gt_bit, word_sgt (by omega) (by omega), andi_bits, andi_bits]
  simp only [and_assoc]

include hk h0 h3 h1 h2 hK in
/-- ONE TRIP: a position stays marked unless the trip's position is marked, comes before it and covers it. -/
theorem trip_at (j : Fin 5000) :
    @Eq (BitVec 1) ((step_main_v75_4 V : S5000.Idx → BitVec 1) (ix1 j))
      (BitVec.ofBool (decide (K j.val ∧ ¬ (Ideal.ofBits FTy.f32 1056964608#32 < O ⟨k, hk⟩ j ∧ k < j.val ∧ K k)))) := by
  unfold step_main_v75_4
  rw [position hk h0 h3]
  have e1 := fun st a b => pick_row (V (Proc.devRef .tc main_v75_1) : S5000x5000.Idx → EReal) hk st a b j
  have e2 := fun st a => pick_one (V (Proc.devRef .tc main_v75_4) : S5000.Idx → BitVec 1) hk st a ix0
  have e1' := e1 (fun a => (((![wrapWord k, wrapWord 0] : Fin 2 → S_.Idx → BitVec 32)) a (Shape.Idx.first h_S_)).toInt) (wrapWord_int (n := k) (by omega) (Shape.Idx.first h_S_)) (wrapWord_int (n := 0) (by omega) (Shape.Idx.first h_S_))
  have e2' := e2 (fun a => (((![wrapWord k] : Fin 1 → S_.Idx → BitVec 32)) a (Shape.Idx.first h_S_)).toInt) (fun a => by fin_cases a; exact wrapWord_int (n := k) (by omega) (Shape.Idx.first h_S_))
  rw [h1] at e1'
  rw [hK] at e2'
  have hb := covered_bits (O ⟨k, hk⟩ j) hk j (K k)
  refine Eq.trans ?_ (and_not_bits _ _)
  rw [← hb, ← hK, ← h2, ← e1', ← e2']
  rfl

end Cert.ReferenceIdeal.Nms

end
-- ==== Proof.RI.Trips.lean ====
/-
  The reference's loop from its entry to its end: the marks before every trip, and the buffers it leaves alone.
-/
module

public import proofs.«01_k».proof.Proof.RI.Loop
public import Idealize.ShloMosaic.Lib.Scf

@[expose] public section

noncomputable section

namespace Cert.ReferenceIdeal.Nms

open Cert.ReferenceIdeal Cert.ReferenceIdeal.Value Cert.ReferenceIdeal.Gen Cert.Nms
open Idealize.ShloMosaic Idealize.ShloMosaic.TcCoe Idealize.SL.Sem
open Idealize.ShloMosaic.StableHlo
open scoped Classical

variable (m : (ℓ : Loc nD τ sig) → Buf (Elt Ideal) ℓ) (c : Dev nD)

/-- The scores as launched. -/
def scores (k : Fin 5000) : EReal := (m (c, Proc.devRef .tc main_arg1) : S5000.Idx → EReal) (ix1 k)

/-- The boxes as launched. -/
def boxes (k : Fin 5000) (d : Fin 4) : EReal := (m (c, Proc.devRef .tc main_arg0) : S5000x4.Idx → EReal) (ix2 k d)

/-- The contents once the order is known. -/
def ordered : Valuation τ sig (Elt Ideal) := after hostOps0_3 (after hostOps0_2 (after hostOps0_1 (after hostOps0 (launchContents m c))))

/-- The order it holds. -/
theorem ordered_order (i : Fin 5000) :
    @Eq (BitVec 32) ((ordered m c (Proc.devRef .tc main_v4) : S5000.Idx → BitVec 32) (ix1 i)) (BitVec.ofNat 32 (perm (scores m c) i).val) :=
  order_at (launchContents m c) i

/-- The thresholded scores it holds. -/
theorem ordered_thr (k : Fin 5000) : @Eq EReal ((ordered m c (Proc.devRef .tc main_v2) : S5000.Idx → EReal) (ix1 k)) (thr (scores m c) k) :=
  thr_at (launchContents m c) k

/-- The boxes it holds, as launched. -/
theorem ordered_box (k : Fin 5000) (d : Fin 4) :
    @Eq EReal ((ordered m c (Proc.devRef .tc main_arg0) : S5000x4.Idx → EReal) (ix2 k d)) (boxes m c k d) := by
  unfold ordered
  rw [after_of_writes_sub hostOps0_3 _ hostOps0_3_writes (by decide), after_of_writes_sub hostOps0_2 _ hostOps0_2_writes (by decide),
    after_of_writes_sub hostOps0_1 _ hostOps0_1_writes (by decide), after_of_writes_sub hostOps0 _ hostOps0_writes (by decide)]
  rfl

/-- The contents at the loop's entry. -/
theorem entry_eq : entryContents preI m c = after hostOps0_6 (after hostOps0_5 (after hostOps0_4 (ordered m c))) := by
  simp only [entryContents, preI, afterL_cons, afterL_nil, ordered]

/-- One ordered box covers another: they overlap by more than one half. -/
abbrev Covers : ℕ → ℕ → Prop := Over (box (boxes m c) (scores m c))

/-- The marks before trip `k`. -/
abbrev marks (k : ℕ) : ℕ → Prop := sweep (Eligible (scores m c)) (Covers m c) k

variable (k : ℕ)

/-- The boxes, ordered, before every trip. -/
theorem trip_box (i : Fin 5000) (d : Fin 4) :
    @Eq EReal ((atK m k c (Proc.devRef .tc main_v11) : S5000x4.Idx → EReal) (ix2 i d)) (box (boxes m c) (scores m c) i d) := by
  rw [trip_keep m c main_v11 (by decide) (by decide) (by decide) k, entry_eq]
  exact sorted_box (ordered_order m c) (ordered_box m c) i d

/-- The scores, ordered, before every trip. -/
theorem trip_score (i : Fin 5000) :
    @Eq EReal ((atK m k c (Proc.devRef .tc main_v18) : S5000.Idx → EReal) (ix1 i)) (score (scores m c) i) := by
  rw [trip_keep m c main_v18 (by decide) (by decide) (by decide) k, entry_eq]
  exact sorted_score (ordered_order m c) (ordered_thr m c) i

/-- The overlaps before every trip. -/
theorem trip_overlap (i j : Fin 5000) :
    @Eq EReal ((atK m k c (Proc.devRef .tc main_v75_1) : S5000x5000.Idx → EReal) (ix2 i j)) (iou (box (boxes m c) (scores m c) i) (box (boxes m c) (scores m c) j)) := by
  rw [trip_keep m c main_v75_1 (by decide) (by decide) (by decide) k, entry_eq]
  exact overlap_at (ordered_order m c) (ordered_box m c) i j

/-- The loop's positions before every trip. -/
theorem trip_range (i : Fin 5000) :
    @Eq (BitVec 32) ((atK m k c (Proc.devRef .tc main_v75_0) : S5000.Idx → BitVec 32) (ix1 i)) (BitVec.ofNat 32 i.val) := by
  rw [trip_keep m c main_v75_0 (by decide) (by decide) (by decide) k, entry_eq]
  exact range_at i

/-- The compared positions before every trip. -/
theorem trip_place (i : Fin 5000) :
    @Eq (BitVec 32) ((atK m k c (Proc.devRef .tc main_v75_2) : S5000.Idx → BitVec 32) (ix1 i)) (BitVec.ofNat 32 i.val) := by
  rw [trip_keep m c main_v75_2 (by decide) (by decide) (by decide) k, entry_eq]
  exact place_at i

/-- The loop's counter is the trip's number. -/
theorem trip_counter : atK m k c (Proc.devRef .tc main_v75_3) = fun _ => BitVec.ofNat 32 k := by
  rw [atK_ctr]
  funext _
  simp [Scf.iv]

/-- THE LOOP: the marks before every trip are the sweep's. -/
theorem trip_marks : ∀ k ≤ 5000, ∀ i : Fin 5000,
    @Eq (BitVec 1) ((atK m k c (Proc.devRef .tc main_v75_4) : S5000.Idx → BitVec 1) (ix1 i)) (BitVec.ofBool (decide (marks m c k i.val)))
  | 0, _, i => by
    rw [show atK m 0 c = entryContents preI m c from rfl, entry_eq]
    exact marks_at (ordered_order m c) (ordered_thr m c) i
  | k + 1, hk, i => by
    have e : atK m (k + 1) c (Proc.devRef .tc main_v75_4) = step_main_v75_4 (atK m k c) :=
      (trip_main_v75_4 (after condOps (atK m k c))).trans (step_main_v75_4_congr (cond_keeps (atK m k c)))
    refine (congrFun e (ix1 i)).trans ((trip_at (V := atK m k c) (k := k) (by omega) (trip_range m c k) (trip_counter m c k)
      (O := fun i j => iou (box (boxes m c) (scores m c) i) (box (boxes m c) (scores m c) j)) (K := marks m c k)
      (trip_overlap m c k) (trip_place m c k) (trip_marks k (by omega)) i).trans ?_)
    refine congrArg BitVec.ofBool (decide_eq_decide.mpr ?_)
    exact Iff.rfl

end Cert.ReferenceIdeal.Nms

end
-- ==== Proof.RI.Result.lean ====
/-
  What the reference returns: row `r` holds the box and the score of the `r`-th position, marked positions first.
-/
module

public import proofs.«01_k».proof.Proof.RI.Trips

@[expose] public section

noncomputable section

namespace Cert.ReferenceIdeal.Nms

open Cert.ReferenceIdeal Cert.ReferenceIdeal.Value Cert.ReferenceIdeal.Gen Cert.Nms
open Idealize.ShloMosaic Idealize.ShloMosaic.TcCoe Idealize.SL.Sem
open Idealize.ShloMosaic.StableHlo
open scoped Classical

/-- The host's total order on numbers, as a bit. -/
theorem total_gt (a b : EReal) : (FloatOps.cmpfTotal (F := Ideal) (φ := .f32) .gt a b : BitVec 1) = BitVec.ofBool (decide (b < a)) := by
  exact gt_bit a b

/-- The first hundred entries of a row of 5000. -/
theorem head_at {α : Type} (y : S5000.Idx → α) (r : Fin 100) : extractStridedSlice S100 (fun _ => 0) y sliceFits_S5000_S100 (ix1 r) = y (ix1 ⟨r.val, by omega⟩) := by
  pointwise

/-- The value the top of `x` holds at rank `r`. -/
theorem top_value (x : FVec Ideal S5000 .f32) (r : Fin 100) :
    (Host.topK S100 0 (FloatOps.cmpfTotal .gt) x sliceFits_S5000_S100).1 (ix1 r) = x (ix1 (sortedFrom (keyThenPos fun k => (x (ix1 k) : EReal)) ⟨r.val, by omega⟩)) := by
  unfold Host.topK
  dsimp only
  rw [Host.sort2_eq_sortBy]
  dsimp only
  pointwise
  exact sortBy_at (fun k => (x (ix1 k) : EReal)) _ _ (fun k k' => total_gt _ _) _ _

/-- The position the top of `x` names at rank `r`. -/
theorem top_place (x : FVec Ideal S5000 .f32) (r : Fin 100) :
    (Host.topK S100 0 (FloatOps.cmpfTotal .gt) x sliceFits_S5000_S100).2 (ix1 r) = BitVec.ofNat 32 (sortedFrom (keyThenPos fun k => (x (ix1 k) : EReal)) ⟨r.val, by omega⟩).val := by
  unfold Host.topK
  dsimp only
  rw [Host.sort2_eq_sortBy]
  dsimp only
  refine (head_at _ r).trans ((sortBy_at (fun k => (x (ix1 k) : EReal)) _ _ (fun k k' => ?_) _ _).trans ?_)
  · exact total_gt _ _
  · rfl

variable {V : Valuation τ sig (Elt Ideal)} {key : Fin 5000 → EReal} {B : Fin 5000 → Fin 4 → EReal}

/-- The values ranked: what is marked keeps its score. -/
def ranked (V : Valuation τ sig (Elt Ideal)) : FVec Ideal S5000 .f32 :=
  select (V (Proc.devRef .tc main_v75_4)) (V (Proc.devRef .tc main_v18)) (broadcastInDim S5000 ![] bcast_S_S5000 (id (constant S_ FTy.f32 3212836864#32)))

/-- Rows taken from the boxes at the ranked positions. -/
theorem ranked_box (hb : ∀ i d, @Eq EReal ((V (Proc.devRef .tc main_v11) : S5000x4.Idx → EReal) (ix2 i d)) (B i d)) (hk : ∀ k, @Eq EReal (ranked V (ix1 k)) (key k))
    (r : Fin 100) (d : Fin 4) :
    @Eq EReal (Host.gather gather_S5000x4_S100x1_S100x4_1_0_n_n_0_1_14 (V (Proc.devRef .tc main_v11))
        (broadcastInDim S100x1 ![0] bcast_S100_S100x1_0
          (select (cmpi CmpIPredicate.slt (Host.topK S100 0 (FloatOps.cmpfTotal .gt) (ranked V) sliceFits_S5000_S100).2 (broadcastInDim S100 ![] bcast_S_S100 (constantI S_ 32 0#32)))
            (addi (Host.topK S100 0 (FloatOps.cmpfTotal .gt) (ranked V) sliceFits_S5000_S100).2 (broadcastInDim S100 ![] bcast_S_S100 (constantI S_ 32 5000#32)))
            (Host.topK S100 0 (FloatOps.cmpfTotal .gt) (ranked V) sliceFits_S5000_S100).2)) (ix2 r d))
      (B (sortedFrom (keyThenPos key) ⟨r.val, by omega⟩) d) := by
  have e : (fun k => (ranked V (ix1 k) : EReal)) = key := funext hk
  have w := top_place (ranked V) r
  rw [e] at w
  refine (Routing.gather_row gather_S5000x4_S100x1_S100x4_1_0_n_n_0_1_14 rfl rfl rfl rfl rfl _ _ r d (sortedFrom (keyThenPos key) ⟨r.val, by omega⟩) ?_ (by norm_num)).trans (hb _ _)
  generalize (Host.topK S100 0 (FloatOps.cmpfTotal .gt) (ranked V) sliceFits_S5000_S100).2 = t at w ⊢
  pointwise
  exact wrapped w _

/-- The result's rows, from the marks, the boxes and the scores the loop leaves. -/
theorem row_at (hb : ∀ i d, @Eq EReal ((V (Proc.devRef .tc main_v11) : S5000x4.Idx → EReal) (ix2 i d)) (B i d)) (hk : ∀ k, @Eq EReal (ranked V (ix1 k)) (key k))
    (r : Fin 100) (d : Fin 5) :
    @Eq EReal ((after hostOps0_9 (after hostOps0_8 (after hostOps0_7 V)) (Proc.devRef .tc main_v85) : S100x5.Idx → EReal) (ix2 r d))
      (if h : d.val < 4 then B (sortedFrom (keyThenPos key) ⟨r.val, by omega⟩) ⟨d.val, h⟩ else key (sortedFrom (keyThenPos key) ⟨r.val, by omega⟩)) := by
  have e : (fun k => (ranked V (ix1 k) : EReal)) = key := funext hk
  have v := top_value (ranked V) r
  rw [e, hk] at v
  repeat after_reads_at
  by_cases h : d.val < 4
  · rw [dif_pos h, dif_pos h]
    exact ranked_box hb hk r ⟨d.val, h⟩
  · rw [dif_neg h, dif_neg h]
    exact v

variable (m : (ℓ : Loc nD τ sig) → Buf (Elt Ideal) ℓ) (c : Dev nD)

/-- The marks the loop ends with. -/
abbrev kept : ℕ → Prop := swept 5000 (Eligible (scores m c)) (Covers m c)

/-- They are the greedy ones. -/
theorem kept_greedy : Greedy (Eligible (scores m c)) (Covers m c) (kept m c) := swept_greedy fun _ h => not_eligible h

/-- What the rows are ranked by: a kept position's score, and minus one at the others. -/
def rank (k : Fin 5000) : EReal := if kept m c k then score (scores m c) k else Ideal.ofBits FTy.f32 3212836864#32

/-- The position of row `r`. -/
def rowPlace (r : Fin 100) : Fin 5000 := sortedFrom (keyThenPos (rank m c)) ⟨r.val, by omega⟩

/-- What the host ranks is `rank`. -/
theorem ranked_at (k : Fin 5000) : @Eq EReal (ranked (after condOps (atK m 5000 c)) (ix1 k)) (rank m c k) := by
  have h4 : after condOps (atK m 5000 c) (Proc.devRef .tc main_v75_4) = atK m 5000 c (Proc.devRef .tc main_v75_4) := cond_keeps _ _ (by decide)
  have h18 : after condOps (atK m 5000 c) (Proc.devRef .tc main_v18) = atK m 5000 c (Proc.devRef .tc main_v18) :=
    after_of_writes_sub condOps _ condOps_writes (by decide)
  unfold ranked
  rw [h4, h18]
  have a := trip_marks m c 5000 le_rfl k
  have b := trip_score m c 5000 k
  have hk : kept m c k ↔ marks m c 5000 k := ⟨fun h => h.2, fun h => ⟨k.2, h⟩⟩
  pointwise
  unfold rank
  rw [a, b]
  by_cases h : marks m c 5000 k
  · rw [if_pos (hk.mpr h), decide_eq_true h]; rfl
  · rw [if_neg (mt hk.mp h), decide_eq_false h]; rfl

/-- THE RESULT, entry by entry. -/
theorem result_at (r : Fin 100) (d : Fin 5) :
    @Eq EReal ((result m c : S100x5.Idx → EReal) (ix2 r d))
      (if h : d.val < 4 then box (boxes m c) (scores m c) (rowPlace m c r) ⟨d.val, h⟩ else rank m c (rowPlace m c r)) := by
  have e : result m c = after hostOps0_9 (after hostOps0_8 (after hostOps0_7 (after condOps (atK m 5000 c)))) (Proc.devRef .tc main_v85) := by
    unfold result
    simp only [finalContents, postI, afterL_cons, afterL_nil]
  refine (congrFun e (ix2 r d)).trans ?_
  refine row_at (B := fun i d => box (boxes m c) (scores m c) i d) (fun i d => ?_) (ranked_at m c) r d
  rw [after_of_writes_sub condOps _ condOps_writes (by decide)]
  exact trip_box m c 5000 i d

/-- Row `r` is where the kept positions come first. -/
theorem place_row (r : Fin 100) : place (kept m c) 5000 (rowPlace m c r) = r := by
  refine place_sortedFrom (kept m c) (rank m c) (fun i => score (scores m c) i) (Ideal.ofBits FTy.f32 3212836864#32) (fun i j h => score_anti _ h)
    (fun i h => ⟨if_pos h, ?_⟩) (fun i h => if_neg h) ⟨r.val, by omega⟩
  exact neg_one_lt_low.trans ((kept_greedy m c i).mp h).1

end Cert.ReferenceIdeal.Nms

end
-- ==== Proof.Equation.lean ====
/-
  The equation: the kernel and the reference, launched on the same boxes and scores, return the same rows.
-/
module

public import proofs.«01_k».proof.Proof.KI.Result
public import proofs.«01_k».proof.Proof.RI.Result

@[expose] public section

noncomputable section

namespace Cert.Nms

open Idealize.ShloMosaic Idealize.ShloMosaic.TcCoe Idealize.SL.Sem
open scoped Classical

/-- Places do not depend on how many positions past the last marked one are counted. -/
theorem place_padded {K : ℕ → Prop} {n e c : ℕ} (hf : ∀ j, n ≤ j → ¬ K j) : place K (n + e) c = place K n c := by
  have h : cnt (fun j => K (n + j)) e = 0 := by
    have : ∀ e, cnt (fun j => K (n + j)) e = 0 := by
      intro e
      induction e with
      | zero => rfl
      | succ e ih => rw [cnt_succ, ih, if_neg (hf _ (Nat.le_add_right n e))]
    exact this e
  unfold place
  rw [cnt_add, h, Nat.add_zero]

/-- A position, counted among the padded ones. -/
theorem widened (q : Fin 5000) : ∃ p : Fin 5120, p.val = q.val := ⟨⟨q.val, by omega⟩, rfl⟩

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)

/-- The kernel's rows, for the reference's boxes and scores. -/
theorem entry_eq (hs : KernelIdeal.Nms.scores m c = ReferenceIdeal.Nms.scores m' c) (hb : KernelIdeal.Nms.boxes m c = ReferenceIdeal.Nms.boxes m' c)
    (r : Fin 100) (d : Fin 5) :
    @Eq EReal ((KernelIdeal.Nms.result m c : KernelIdeal.S100x5.Idx → EReal) (ix2 r d))
      ((ReferenceIdeal.Nms.result m' c : ReferenceIdeal.S100x5.Idx → EReal) (ix2 r d)) := by
  have hR := ReferenceIdeal.Nms.kept_greedy m' c
  have h0 := ReferenceIdeal.Nms.place_row m' c r
  obtain ⟨p, e⟩ := widened (ReferenceIdeal.Nms.rowPlace m' c r)
  rw [← e, ← place_padded (e := 120) fun j h hj => absurd hj.1 (Nat.not_lt.mpr h)] at h0
  have hp : place (ReferenceIdeal.Nms.kept m' c) 5120 p.val = r.val := h0
  clear h0
  have hR' : Greedy (Eligible (KernelIdeal.Nms.scores m c)) (Over (box (KernelIdeal.Nms.boxes m c) (KernelIdeal.Nms.scores m c))) (ReferenceIdeal.Nms.kept m' c) := by
    rw [hs, hb]; exact hR
  have v := KernelIdeal.Nms.rows_value m c hR' KernelIdeal.Nms.lastPt rfl hp ⟨d.val, d.2.trans (by norm_num)⟩
  rw [hs, hb, e] at v
  refine (KernelIdeal.Nms.result_at m c r d).trans (v.trans ((?_ : _ = _).trans (ReferenceIdeal.Nms.result_at m' c r d).symm))
  by_cases h : d.val < 4
  · have h4 : ¬ d.val = 4 := by omega
    simp only [h, h4, dif_pos, ind, if_false, mul_zero, add_zero]
  · have h4 : d.val = 4 := by omega
    rw [dif_neg h, dif_neg h]
    simp only [h4, ind, if_true, mul_one, zero_add, ReferenceIdeal.Nms.rank]

/-- THE EQUATION: equal arguments give equal results. -/
theorem result_eq (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1)) :
    @Eq (KernelIdeal.S100x5.Idx → EReal) (ReferenceIdeal.Nms.result m' c) (KernelIdeal.Nms.result m c) := by
  have hs : KernelIdeal.Nms.scores m c = ReferenceIdeal.Nms.scores m' c := funext fun k => (congrFun h1 (ix1 k)).symm
  have hb : KernelIdeal.Nms.boxes m c = ReferenceIdeal.Nms.boxes m' c := funext fun k => funext fun d => (congrFun h0 (ix2 k d)).symm
  funext i
  have e := (entry_eq m m' c hs hb (i 0) (i 1)).symm
  have hi : (ix2 (i 0) (i 1) : KernelIdeal.S100x5.Idx) = i := by
    funext a
    match a with
    | ⟨0, _⟩ => rfl
    | ⟨1, _⟩ => rfl
  rw [← hi]
  exact e

/-- The kernel and the reference both run, and end at one result. -/
theorem runs_agree (g : Dev KernelIdeal.nD → PrngReg) (g' : Dev ReferenceIdeal.nD → PrngReg)
    (h : ∀ c : Dev KernelIdeal.nD,
      m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)) :
    ∃ v : (c : Dev KernelIdeal.nD) → Buf (Elt Ideal) ((c.tc : Thread KernelIdeal.nD KernelIdeal.τ).loc KernelIdeal.main_v31),
      θ_run (KernelIdeal.defs (F := Ideal)) (onTc (τ := KernelIdeal.τ) (KernelIdeal.main (F := Ideal))) ⟨m, fun _ => 0, g⟩ (fun r => ∀ c : Dev KernelIdeal.nD,
        r.2.mem ((c.tc : Thread KernelIdeal.nD KernelIdeal.τ).loc KernelIdeal.main_v31) = v c
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
      ∧ θ_run (ReferenceIdeal.defs (F := Ideal)) (onTc (τ := ReferenceIdeal.τ) (ReferenceIdeal.main (F := Ideal))) ⟨m', fun _ => 0, g'⟩ (fun r => ∀ c : Dev ReferenceIdeal.nD,
        r.2.mem ((c.tc : Thread ReferenceIdeal.nD ReferenceIdeal.τ).loc ReferenceIdeal.main_v85) = v c
        ∧ r.2.mem ((c.tc : Thread ReferenceIdeal.nD ReferenceIdeal.τ).loc ReferenceIdeal.main_arg0) = m' ((c.tc : Thread ReferenceIdeal.nD ReferenceIdeal.τ).loc ReferenceIdeal.main_arg0)
        ∧ r.2.mem ((c.tc : Thread ReferenceIdeal.nD ReferenceIdeal.τ).loc ReferenceIdeal.main_arg1) = m' ((c.tc : Thread ReferenceIdeal.nD ReferenceIdeal.τ).loc ReferenceIdeal.main_arg1)) :=
  ⟨KernelIdeal.Nms.result m, KernelIdeal.Nms.run_value m g,
    (θ_run ReferenceIdeal.defs _ _).mono (fun _ hr c => ⟨(hr c).1.trans (result_eq m m' c (h c).1 (h c).2), (hr c).2⟩) (ReferenceIdeal.Nms.run_value m' g')⟩

end Cert.Nms

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RI.Frame
public import proofs.«01_k».proof.Proof.KI.Frame
public import proofs.«01_k».proof.Proof.KB.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Nms.frame m ρ, fun m ρ _ => Cert.KernelIdeal.Nms.frame m ρ,
  fun m ρ _ => Cert.ReferenceIdeal.Nms.frame m ρ, trivial,
  fun m g m' g' _ h => Cert.Nms.runs_agree m m' g g' h⟩

end Cert.Proof

end
